-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![4096, 256]⟩ ⟨2, ![4096, 4096]⟩ 1 16 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![256, 2048]⟩ ⟨2, ![4096, 2048]⟩ 0 16 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![256, 2048]⟩ ⟨2, ![4096, 2048]⟩ 0 16 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x256 : Shape := ⟨2, ![4096, 256]⟩
abbrev S256x2048 : Shape := ⟨2, ![256, 2048]⟩
abbrev S1 : Shape := ⟨1, ![1]⟩
abbrev S4096x2048 : Shape := ⟨2, ![4096, 2048]⟩
abbrev S12x256x2048 : Shape := ⟨3, ![12, 256, 2048]⟩
abbrev S6x256x1024 : Shape := ⟨3, ![6, 256, 1024]⟩
abbrev S12 : Shape := ⟨1, ![12]⟩
abbrev S6 : Shape := ⟨1, ![6]⟩
abbrev S_ : Shape := ⟨0, ![]⟩
abbrev S256x256 : Shape := ⟨2, ![256, 256]⟩
abbrev S1x256x2048 : Shape := ⟨3, ![1, 256, 2048]⟩
abbrev S256x1024 : Shape := ⟨2, ![256, 1024]⟩
abbrev S1x256x1024 : Shape := ⟨3, ![1, 256, 1024]⟩

abbrev nBuf : Space → Nat
  | .hbm => 5
  | .vmem => 8
  | .smem => 2
  | _ => 0

abbrev bufTy : (tb : Table) → Fin (tcTables nBuf tb) → BufTy
  | .hbm, ⟨0, _⟩ => ⟨S4096x256, .fp8e4m3⟩
  | .hbm, ⟨1, _⟩ => ⟨S256x2048, .fp8e4m3⟩
  | .hbm, ⟨2, _⟩ => ⟨S1, .f32⟩
  | .hbm, ⟨3, _⟩ => ⟨S1, .f32⟩
  | .hbm, ⟨4, _⟩ => ⟨S256x2048, .f32⟩
  | .local _ .vmem, ⟨0, _⟩ => ⟨S4096x256, .fp8e4m3⟩
  | .local _ .vmem, ⟨1, _⟩ => ⟨S256x2048, .fp8e4m3⟩
  | .local _ .vmem, ⟨2, _⟩ => ⟨S256x2048, .f32⟩
  | .local _ .vmem, ⟨3, _⟩ => ⟨S4096x2048, .f32⟩
  | .local _ .vmem, ⟨4, _⟩ => ⟨S12x256x2048, .i8⟩
  | .local _ .vmem, ⟨5, _⟩ => ⟨S12x256x2048, .i8⟩
  | .local _ .vmem, ⟨6, _⟩ => ⟨S6x256x1024, .bf16⟩
  | .local _ .vmem, ⟨7, _⟩ => ⟨S6x256x1024, .bf16⟩
  | .local _ .smem, ⟨0, _⟩ => ⟨S1, .f32⟩
  | .local _ .smem, ⟨1, _⟩ => ⟨S1, .f32⟩
  | _, _ => ⟨S4096x256, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .smem, ⟨0, _⟩ => true
  | .smem, ⟨1, _⟩ => true
  | _, _ => false

abbrev semScoped : Fin 1 → Bool
  | ⟨0, _⟩ => false
  | _ => false

abbrev dmaSemScoped : Fin 41 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | _ => false

abbrev sig : RefSig :=
  (ofTc nBuf bufTy 1 41 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg4_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_scratch3 : Ref sig .tc := ⟨.vmem, 6, rfl⟩
abbrev cc0_scratch4 : Ref sig .tc := ⟨.vmem, 7, rfl⟩
abbrev cc0_stg2_0 : Ref sig .tc := ⟨.smem, 0, rfl⟩
abbrev cc0_stg3_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32 : BitVec 32 := 0#32
  let c4_i32_7 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let v14 : BitVec 32 := Scalar.muli c4_i32_7 v3
  let c4_i32_0 : BitVec 32 := 4#32
  let v4 : BitVec 32 := Scalar.remsi v2 c4_i32_0
  let c1_i32_6 : BitVec 32 := 1#32
  let v13 : BitVec 32 := Scalar.addi v4 c1_i32_6
  let c4_i32_8 : BitVec 32 := 4#32
  let v15 : BitVec 32 := Scalar.remsi v13 c4_i32_8
  let v16 : BitVec 32 := Scalar.addi v14 v15
  let c1_i32_15 : BitVec 32 := 1#32
  let v26 : BitVec 32 := Scalar.muli v16 c1_i32_15
  let v27 : BitVec 32 := Scalar.addi c0_i32 v26
  v27.toNat
def k0_dev2 (d0 : Dev nD) : Nat :=
  let c0_i32_18 : BitVec 32 := 0#32
  let c4_i32_9 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let v18 : BitVec 32 := Scalar.muli c4_i32_9 v3
  let c4_i32_0 : BitVec 32 := 4#32
  let v4 : BitVec 32 := Scalar.remsi v2 c4_i32_0
  let c2_i32 : BitVec 32 := 2#32
  let v17 : BitVec 32 := Scalar.addi v4 c2_i32
  let c4_i32_10 : BitVec 32 := 4#32
  let v19 : BitVec 32 := Scalar.remsi v17 c4_i32_10
  let v20 : BitVec 32 := Scalar.addi v18 v19
  let c1_i32_17 : BitVec 32 := 1#32
  let v28 : BitVec 32 := Scalar.muli v20 c1_i32_17
  let v29 : BitVec 32 := Scalar.addi c0_i32_18 v28
  v29.toNat
def k0_dev3 (d0 : Dev nD) : Nat :=
  let c0_i32_21 : BitVec 32 := 0#32
  let c4_i32_12 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let v22 : BitVec 32 := Scalar.muli c4_i32_12 v3
  let c4_i32_0 : BitVec 32 := 4#32
  let v4 : BitVec 32 := Scalar.remsi v2 c4_i32_0
  let c3_i32_11 : BitVec 32 := 3#32
  let v21 : BitVec 32 := Scalar.addi v4 c3_i32_11
  let c4_i32_13 : BitVec 32 := 4#32
  let v23 : BitVec 32 := Scalar.remsi v21 c4_i32_13
  let v24 : BitVec 32 := Scalar.addi v22 v23
  let c1_i32_20 : BitVec 32 := 1#32
  let v30 : BitVec 32 := Scalar.muli v24 c1_i32_20
  let v31 : BitVec 32 := Scalar.addi c0_i32_21 v30
  v31.toNat
def k0_dev4 (d0 : Dev nD) : Nat :=
  let c0_i32_24 : BitVec 32 := 0#32
  let c4_i32_5 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c3_i32 : BitVec 32 := 3#32
  let v9 : BitVec 32 := Scalar.addi v3 c3_i32
  let c4_i32_4 : BitVec 32 := 4#32
  let v10 : BitVec 32 := Scalar.remsi v9 c4_i32_4
  let v11 : BitVec 32 := Scalar.muli c4_i32_5 v10
  let c4_i32_0 : BitVec 32 := 4#32
  let v4 : BitVec 32 := Scalar.remsi v2 c4_i32_0
  let v12 : BitVec 32 := Scalar.addi v11 v4
  let c1_i32_23 : BitVec 32 := 1#32
  let v32 : BitVec 32 := Scalar.muli v12 c1_i32_23
  let v33 : BitVec 32 := Scalar.addi c0_i32_24 v32
  v33.toNat
def k0_dev5 (d0 : Dev nD) : Nat :=
  let c0_i32_27 : BitVec 32 := 0#32
  let c4_i32_3 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c1_i32_1 : BitVec 32 := 1#32
  let v5 : BitVec 32 := Scalar.addi v3 c1_i32_1
  let c4_i32_2 : BitVec 32 := 4#32
  let v6 : BitVec 32 := Scalar.remsi v5 c4_i32_2
  let v7 : BitVec 32 := Scalar.muli c4_i32_3 v6
  let c4_i32_0 : BitVec 32 := 4#32
  let v4 : BitVec 32 := Scalar.remsi v2 c4_i32_0
  let v8 : BitVec 32 := Scalar.addi v7 v4
  let c1_i32_26 : BitVec 32 := 1#32
  let v34 : BitVec 32 := Scalar.muli v8 c1_i32_26
  let v35 : BitVec 32 := Scalar.addi c0_i32_27 v34
  v35.toNat
def k0_off1 (d0 : Dev nD) (c0_i32_30 : BitVec 32) (c1_i32_33 : BitVec 32) : Fin 2 → Nat :=
  let c4_i32_32 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c3_i32_29 : BitVec 32 := 3#32
  let v39 : BitVec 32 := Scalar.addi v3 c3_i32_29
  let v40 : BitVec 32 := Scalar.subi v39 c0_i32_30
  let c4_i32_31 : BitVec 32 := 4#32
  let v41 : BitVec 32 := Scalar.remsi v40 c4_i32_31
  let v42 : BitVec 32 := Scalar.muli c4_i32_32 v41
  let c4_i32_0 : BitVec 32 := 4#32
  let v4 : BitVec 32 := Scalar.remsi v2 c4_i32_0
  let v43 : BitVec 32 := Scalar.addi v4 c1_i32_33
  let c4_i32_34 : BitVec 32 := 4#32
  let v44 : BitVec 32 := Scalar.remsi v43 c4_i32_34
  let v45 : BitVec 32 := Scalar.addi v42 v44
  let c256_i32 : BitVec 32 := 256#32
  let v46 : BitVec 32 := Scalar.muli v45 c256_i32
  let v47 : Index := Scalar.indexCast v46
  let c0_35 : Index := 0#32
  ![v47.toNat, 0]
def k0_off2 (d0 : Dev nD) (c0_i32_30 : BitVec 32) (c1_i32_33 : BitVec 32) : Fin 2 → Nat :=
  let c4_i32_32 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c3_i32_29 : BitVec 32 := 3#32
  let v39 : BitVec 32 := Scalar.addi v3 c3_i32_29
  let v40 : BitVec 32 := Scalar.subi v39 c0_i32_30
  let c4_i32_31 : BitVec 32 := 4#32
  let v41 : BitVec 32 := Scalar.remsi v40 c4_i32_31
  let v42 : BitVec 32 := Scalar.muli c4_i32_32 v41
  let c4_i32_0 : BitVec 32 := 4#32
  let v4 : BitVec 32 := Scalar.remsi v2 c4_i32_0
  let v43 : BitVec 32 := Scalar.addi v4 c1_i32_33
  let c4_i32_34 : BitVec 32 := 4#32
  let v44 : BitVec 32 := Scalar.remsi v43 c4_i32_34
  let v45 : BitVec 32 := Scalar.addi v42 v44
  let c256_i32 : BitVec 32 := 256#32
  let v46 : BitVec 32 := Scalar.muli v45 c256_i32
  let v52 : Index := Scalar.indexCast v46
  let c0_36 : Index := 0#32
  ![v52.toNat, 0]
def k0_dev6 (d0 : Dev nD) : Nat :=
  let c0_i32_49 : BitVec 32 := 0#32
  let c4_i32_43 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let v66 : BitVec 32 := Scalar.muli c4_i32_43 v3
  let c4_i32_0 : BitVec 32 := 4#32
  let v4 : BitVec 32 := Scalar.remsi v2 c4_i32_0
  let c1_i32_42 : BitVec 32 := 1#32
  let v65 : BitVec 32 := Scalar.addi v4 c1_i32_42
  let c4_i32_44 : BitVec 32 := 4#32
  let v67 : BitVec 32 := Scalar.remsi v65 c4_i32_44
  let v68 : BitVec 32 := Scalar.addi v66 v67
  let c1_i32_48 : BitVec 32 := 1#32
  let v69 : BitVec 32 := Scalar.muli v68 c1_i32_48
  let v70 : BitVec 32 := Scalar.addi c0_i32_49 v69
  v70.toNat
def k0_dev7 (d0 : Dev nD) : Nat :=
  let c0_i32_73 : BitVec 32 := 0#32
  let c4_i32_66 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let v103 : BitVec 32 := Scalar.muli c4_i32_66 v3
  let c4_i32_0 : BitVec 32 := 4#32
  let v4 : BitVec 32 := Scalar.remsi v2 c4_i32_0
  let c2_i32_65 : BitVec 32 := 2#32
  let v102 : BitVec 32 := Scalar.addi v4 c2_i32_65
  let c4_i32_67 : BitVec 32 := 4#32
  let v104 : BitVec 32 := Scalar.remsi v102 c4_i32_67
  let v105 : BitVec 32 := Scalar.addi v103 v104
  let c1_i32_72 : BitVec 32 := 1#32
  let v106 : BitVec 32 := Scalar.muli v105 c1_i32_72
  let v107 : BitVec 32 := Scalar.addi c0_i32_73 v106
  v107.toNat
def k0_dev8 (d0 : Dev nD) : Nat :=
  let c0_i32_97 : BitVec 32 := 0#32
  let c4_i32_90 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let v140 : BitVec 32 := Scalar.muli c4_i32_90 v3
  let c4_i32_0 : BitVec 32 := 4#32
  let v4 : BitVec 32 := Scalar.remsi v2 c4_i32_0
  let c3_i32_89 : BitVec 32 := 3#32
  let v139 : BitVec 32 := Scalar.addi v4 c3_i32_89
  let c4_i32_91 : BitVec 32 := 4#32
  let v141 : BitVec 32 := Scalar.remsi v139 c4_i32_91
  let v142 : BitVec 32 := Scalar.addi v140 v141
  let c1_i32_96 : BitVec 32 := 1#32
  let v143 : BitVec 32 := Scalar.muli v142 c1_i32_96
  let v144 : BitVec 32 := Scalar.addi c0_i32_97 v143
  v144.toNat
def k0_dev9 (d0 : Dev nD) : Nat :=
  let c0_i32_130 : BitVec 32 := 0#32
  let c4_i32_124 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let v194 : BitVec 32 := Scalar.muli c4_i32_124 v3
  let c4_i32_0 : BitVec 32 := 4#32
  let v4 : BitVec 32 := Scalar.remsi v2 c4_i32_0
  let c1_i32_123 : BitVec 32 := 1#32
  let v193 : BitVec 32 := Scalar.addi v4 c1_i32_123
  let c4_i32_125 : BitVec 32 := 4#32
  let v195 : BitVec 32 := Scalar.remsi v193 c4_i32_125
  let v196 : BitVec 32 := Scalar.addi v194 v195
  let c1_i32_129 : BitVec 32 := 1#32
  let v197 : BitVec 32 := Scalar.muli v196 c1_i32_129
  let v198 : BitVec 32 := Scalar.addi c0_i32_130 v197
  v198.toNat
def k0_dev10 (d0 : Dev nD) : Nat :=
  let c0_i32_154 : BitVec 32 := 0#32
  let c4_i32_147 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let v231 : BitVec 32 := Scalar.muli c4_i32_147 v3
  let c4_i32_0 : BitVec 32 := 4#32
  let v4 : BitVec 32 := Scalar.remsi v2 c4_i32_0
  let c2_i32_146 : BitVec 32 := 2#32
  let v230 : BitVec 32 := Scalar.addi v4 c2_i32_146
  let c4_i32_148 : BitVec 32 := 4#32
  let v232 : BitVec 32 := Scalar.remsi v230 c4_i32_148
  let v233 : BitVec 32 := Scalar.addi v231 v232
  let c1_i32_153 : BitVec 32 := 1#32
  let v234 : BitVec 32 := Scalar.muli v233 c1_i32_153
  let v235 : BitVec 32 := Scalar.addi c0_i32_154 v234
  v235.toNat
def k0_dev11 (d0 : Dev nD) : Nat :=
  let c0_i32_178 : BitVec 32 := 0#32
  let c4_i32_171 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let v268 : BitVec 32 := Scalar.muli c4_i32_171 v3
  let c4_i32_0 : BitVec 32 := 4#32
  let v4 : BitVec 32 := Scalar.remsi v2 c4_i32_0
  let c3_i32_170 : BitVec 32 := 3#32
  let v267 : BitVec 32 := Scalar.addi v4 c3_i32_170
  let c4_i32_172 : BitVec 32 := 4#32
  let v269 : BitVec 32 := Scalar.remsi v267 c4_i32_172
  let v270 : BitVec 32 := Scalar.addi v268 v269
  let c1_i32_177 : BitVec 32 := 1#32
  let v271 : BitVec 32 := Scalar.muli v270 c1_i32_177
  let v272 : BitVec 32 := Scalar.addi c0_i32_178 v271
  v272.toNat
def k0_dev12 (d0 : Dev nD) : Nat :=
  let c0_i32_211 : BitVec 32 := 0#32
  let c4_i32_205 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let v322 : BitVec 32 := Scalar.muli c4_i32_205 v3
  let c4_i32_0 : BitVec 32 := 4#32
  let v4 : BitVec 32 := Scalar.remsi v2 c4_i32_0
  let c1_i32_204 : BitVec 32 := 1#32
  let v321 : BitVec 32 := Scalar.addi v4 c1_i32_204
  let c4_i32_206 : BitVec 32 := 4#32
  let v323 : BitVec 32 := Scalar.remsi v321 c4_i32_206
  let v324 : BitVec 32 := Scalar.addi v322 v323
  let c1_i32_210 : BitVec 32 := 1#32
  let v325 : BitVec 32 := Scalar.muli v324 c1_i32_210
  let v326 : BitVec 32 := Scalar.addi c0_i32_211 v325
  v326.toNat
def k0_dev13 (d0 : Dev nD) : Nat :=
  let c0_i32_234 : BitVec 32 := 0#32
  let c4_i32_228 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let v359 : BitVec 32 := Scalar.muli c4_i32_228 v3
  let c4_i32_0 : BitVec 32 := 4#32
  let v4 : BitVec 32 := Scalar.remsi v2 c4_i32_0
  let c2_i32_227 : BitVec 32 := 2#32
  let v358 : BitVec 32 := Scalar.addi v4 c2_i32_227
  let c4_i32_229 : BitVec 32 := 4#32
  let v360 : BitVec 32 := Scalar.remsi v358 c4_i32_229
  let v361 : BitVec 32 := Scalar.addi v359 v360
  let c1_i32_233 : BitVec 32 := 1#32
  let v362 : BitVec 32 := Scalar.muli v361 c1_i32_233
  let v363 : BitVec 32 := Scalar.addi c0_i32_234 v362
  v363.toNat
def k0_dev14 (d0 : Dev nD) : Nat :=
  let c0_i32_258 : BitVec 32 := 0#32
  let c4_i32_251 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let v396 : BitVec 32 := Scalar.muli c4_i32_251 v3
  let c4_i32_0 : BitVec 32 := 4#32
  let v4 : BitVec 32 := Scalar.remsi v2 c4_i32_0
  let c3_i32_250 : BitVec 32 := 3#32
  let v395 : BitVec 32 := Scalar.addi v4 c3_i32_250
  let c4_i32_252 : BitVec 32 := 4#32
  let v397 : BitVec 32 := Scalar.remsi v395 c4_i32_252
  let v398 : BitVec 32 := Scalar.addi v396 v397
  let c1_i32_257 : BitVec 32 := 1#32
  let v399 : BitVec 32 := Scalar.muli v398 c1_i32_257
  let v400 : BitVec 32 := Scalar.addi c0_i32_258 v399
  v400.toNat
def k0_dev15 (d0 : Dev nD) : Nat :=
  let c0_i32_291 : BitVec 32 := 0#32
  let c4_i32_285 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let v450 : BitVec 32 := Scalar.muli c4_i32_285 v3
  let c4_i32_0 : BitVec 32 := 4#32
  let v4 : BitVec 32 := Scalar.remsi v2 c4_i32_0
  let c1_i32_284 : BitVec 32 := 1#32
  let v449 : BitVec 32 := Scalar.addi v4 c1_i32_284
  let c4_i32_286 : BitVec 32 := 4#32
  let v451 : BitVec 32 := Scalar.remsi v449 c4_i32_286
  let v452 : BitVec 32 := Scalar.addi v450 v451
  let c1_i32_290 : BitVec 32 := 1#32
  let v453 : BitVec 32 := Scalar.muli v452 c1_i32_290
  let v454 : BitVec 32 := Scalar.addi c0_i32_291 v453
  v454.toNat
def k0_dev16 (d0 : Dev nD) : Nat :=
  let c0_i32_314 : BitVec 32 := 0#32
  let c4_i32_308 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let v487 : BitVec 32 := Scalar.muli c4_i32_308 v3
  let c4_i32_0 : BitVec 32 := 4#32
  let v4 : BitVec 32 := Scalar.remsi v2 c4_i32_0
  let c2_i32_307 : BitVec 32 := 2#32
  let v486 : BitVec 32 := Scalar.addi v4 c2_i32_307
  let c4_i32_309 : BitVec 32 := 4#32
  let v488 : BitVec 32 := Scalar.remsi v486 c4_i32_309
  let v489 : BitVec 32 := Scalar.addi v487 v488
  let c1_i32_313 : BitVec 32 := 1#32
  let v490 : BitVec 32 := Scalar.muli v489 c1_i32_313
  let v491 : BitVec 32 := Scalar.addi c0_i32_314 v490
  v491.toNat
def k0_dev17 (d0 : Dev nD) : Nat :=
  let c0_i32_338 : BitVec 32 := 0#32
  let c4_i32_331 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let v524 : BitVec 32 := Scalar.muli c4_i32_331 v3
  let c4_i32_0 : BitVec 32 := 4#32
  let v4 : BitVec 32 := Scalar.remsi v2 c4_i32_0
  let c3_i32_330 : BitVec 32 := 3#32
  let v523 : BitVec 32 := Scalar.addi v4 c3_i32_330
  let c4_i32_332 : BitVec 32 := 4#32
  let v525 : BitVec 32 := Scalar.remsi v523 c4_i32_332
  let v526 : BitVec 32 := Scalar.addi v524 v525
  let c1_i32_337 : BitVec 32 := 1#32
  let v527 : BitVec 32 := Scalar.muli v526 c1_i32_337
  let v528 : BitVec 32 := Scalar.addi c0_i32_338 v527
  v528.toNat
def k0_off3 (d0 : Dev nD) (c0_i32_381 : BitVec 32) : Fin 2 → Nat :=
  let c4_i32_383 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c3_i32_380 : BitVec 32 := 3#32
  let v575 : BitVec 32 := Scalar.addi v3 c3_i32_380
  let v576 : BitVec 32 := Scalar.subi v575 c0_i32_381
  let c4_i32_382 : BitVec 32 := 4#32
  let v577 : BitVec 32 := Scalar.remsi v576 c4_i32_382
  let v578 : BitVec 32 := Scalar.muli c4_i32_383 v577
  let c4_i32_0 : BitVec 32 := 4#32
  let v4 : BitVec 32 := Scalar.remsi v2 c4_i32_0
  let v579 : BitVec 32 := Scalar.addi v578 v4
  let c256_i32_384 : BitVec 32 := 256#32
  let v580 : BitVec 32 := Scalar.muli v579 c256_i32_384
  let v581 : Index := Scalar.indexCast v580
  let c0_385 : Index := 0#32
  ![v581.toNat, 0]
def k0_dev18 (d0 : Dev nD) : Nat :=
  let c0_i32_403 : BitVec 32 := 0#32
  let c4_i32_3 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c1_i32_1 : BitVec 32 := 1#32
  let v5 : BitVec 32 := Scalar.addi v3 c1_i32_1
  let c4_i32_2 : BitVec 32 := 4#32
  let v6 : BitVec 32 := Scalar.remsi v5 c4_i32_2
  let v7 : BitVec 32 := Scalar.muli c4_i32_3 v6
  let c4_i32_0 : BitVec 32 := 4#32
  let v4 : BitVec 32 := Scalar.remsi v2 c4_i32_0
  let v8 : BitVec 32 := Scalar.addi v7 v4
  let c1_i32_402 : BitVec 32 := 1#32
  let v599 : BitVec 32 := Scalar.muli v8 c1_i32_402
  let v600 : BitVec 32 := Scalar.addi c0_i32_403 v599
  v600.toNat
def k0_off4 (d0 : Dev nD) (c0_i32_381 : BitVec 32) : Fin 2 → Nat :=
  let c4_i32_383 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c3_i32_380 : BitVec 32 := 3#32
  let v575 : BitVec 32 := Scalar.addi v3 c3_i32_380
  let v576 : BitVec 32 := Scalar.subi v575 c0_i32_381
  let c4_i32_382 : BitVec 32 := 4#32
  let v577 : BitVec 32 := Scalar.remsi v576 c4_i32_382
  let v578 : BitVec 32 := Scalar.muli c4_i32_383 v577
  let c4_i32_0 : BitVec 32 := 4#32
  let v4 : BitVec 32 := Scalar.remsi v2 c4_i32_0
  let v579 : BitVec 32 := Scalar.addi v578 v4
  let c256_i32_384 : BitVec 32 := 256#32
  let v580 : BitVec 32 := Scalar.muli v579 c256_i32_384
  let v609 : Index := Scalar.indexCast v580
  let c1024 : Index := 1024#32
  ![v609.toNat, 1024]
def k0_dev19 (d0 : Dev nD) : Nat :=
  let c0_i32_425 : BitVec 32 := 0#32
  let c4_i32_3 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c1_i32_1 : BitVec 32 := 1#32
  let v5 : BitVec 32 := Scalar.addi v3 c1_i32_1
  let c4_i32_2 : BitVec 32 := 4#32
  let v6 : BitVec 32 := Scalar.remsi v5 c4_i32_2
  let v7 : BitVec 32 := Scalar.muli c4_i32_3 v6
  let c4_i32_0 : BitVec 32 := 4#32
  let v4 : BitVec 32 := Scalar.remsi v2 c4_i32_0
  let v8 : BitVec 32 := Scalar.addi v7 v4
  let c1_i32_424 : BitVec 32 := 1#32
  let v627 : BitVec 32 := Scalar.muli v8 c1_i32_424
  let v628 : BitVec 32 := Scalar.addi c0_i32_425 v627
  v628.toNat
def k0_off5 (d0 : Dev nD) (c1_i32_461 : BitVec 32) : Fin 2 → Nat :=
  let c4_i32_463 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c3_i32_460 : BitVec 32 := 3#32
  let v661 : BitVec 32 := Scalar.addi v3 c3_i32_460
  let v662 : BitVec 32 := Scalar.subi v661 c1_i32_461
  let c4_i32_462 : BitVec 32 := 4#32
  let v663 : BitVec 32 := Scalar.remsi v662 c4_i32_462
  let v664 : BitVec 32 := Scalar.muli c4_i32_463 v663
  let c4_i32_0 : BitVec 32 := 4#32
  let v4 : BitVec 32 := Scalar.remsi v2 c4_i32_0
  let v665 : BitVec 32 := Scalar.addi v664 v4
  let c256_i32_464 : BitVec 32 := 256#32
  let v666 : BitVec 32 := Scalar.muli v665 c256_i32_464
  let v667 : Index := Scalar.indexCast v666
  let c0_465 : Index := 0#32
  ![v667.toNat, 0]
def k0_dev20 (d0 : Dev nD) : Nat :=
  let c0_i32_498 : BitVec 32 := 0#32
  let c4_i32_3 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c1_i32_1 : BitVec 32 := 1#32
  let v5 : BitVec 32 := Scalar.addi v3 c1_i32_1
  let c4_i32_2 : BitVec 32 := 4#32
  let v6 : BitVec 32 := Scalar.remsi v5 c4_i32_2
  let v7 : BitVec 32 := Scalar.muli c4_i32_3 v6
  let c4_i32_0 : BitVec 32 := 4#32
  let v4 : BitVec 32 := Scalar.remsi v2 c4_i32_0
  let v8 : BitVec 32 := Scalar.addi v7 v4
  let c1_i32_497 : BitVec 32 := 1#32
  let v703 : BitVec 32 := Scalar.muli v8 c1_i32_497
  let v704 : BitVec 32 := Scalar.addi c0_i32_498 v703
  v704.toNat
def k0_dev21 (d0 : Dev nD) : Nat :=
  let c0_i32_525 : BitVec 32 := 0#32
  let c4_i32_3 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c1_i32_1 : BitVec 32 := 1#32
  let v5 : BitVec 32 := Scalar.addi v3 c1_i32_1
  let c4_i32_2 : BitVec 32 := 4#32
  let v6 : BitVec 32 := Scalar.remsi v5 c4_i32_2
  let v7 : BitVec 32 := Scalar.muli c4_i32_3 v6
  let c4_i32_0 : BitVec 32 := 4#32
  let v4 : BitVec 32 := Scalar.remsi v2 c4_i32_0
  let v8 : BitVec 32 := Scalar.addi v7 v4
  let c1_i32_524 : BitVec 32 := 1#32
  let v731 : BitVec 32 := Scalar.muli v8 c1_i32_524
  let v732 : BitVec 32 := Scalar.addi c0_i32_525 v731
  v732.toNat
def k0_dev22 (d0 : Dev nD) : Nat :=
  let c0_i32_598 : BitVec 32 := 0#32
  let c4_i32_3 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c1_i32_1 : BitVec 32 := 1#32
  let v5 : BitVec 32 := Scalar.addi v3 c1_i32_1
  let c4_i32_2 : BitVec 32 := 4#32
  let v6 : BitVec 32 := Scalar.remsi v5 c4_i32_2
  let v7 : BitVec 32 := Scalar.muli c4_i32_3 v6
  let c4_i32_0 : BitVec 32 := 4#32
  let v4 : BitVec 32 := Scalar.remsi v2 c4_i32_0
  let v8 : BitVec 32 := Scalar.addi v7 v4
  let c1_i32_597 : BitVec 32 := 1#32
  let v807 : BitVec 32 := Scalar.muli v8 c1_i32_597
  let v808 : BitVec 32 := Scalar.addi c0_i32_598 v807
  v808.toNat
def k0_dev23 (d0 : Dev nD) : Nat :=
  let c0_i32_625 : BitVec 32 := 0#32
  let c4_i32_3 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c1_i32_1 : BitVec 32 := 1#32
  let v5 : BitVec 32 := Scalar.addi v3 c1_i32_1
  let c4_i32_2 : BitVec 32 := 4#32
  let v6 : BitVec 32 := Scalar.remsi v5 c4_i32_2
  let v7 : BitVec 32 := Scalar.muli c4_i32_3 v6
  let c4_i32_0 : BitVec 32 := 4#32
  let v4 : BitVec 32 := Scalar.remsi v2 c4_i32_0
  let v8 : BitVec 32 := Scalar.addi v7 v4
  let c1_i32_624 : BitVec 32 := 1#32
  let v835 : BitVec 32 := Scalar.muli v8 c1_i32_624
  let v836 : BitVec 32 := Scalar.addi c0_i32_625 v835
  v836.toNat
def k0_off6 (d0 : Dev nD) : Fin 2 → Nat :=
  let c4_i32_660 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let v869 : BitVec 32 := Scalar.muli c4_i32_660 v3
  let c4_i32_0 : BitVec 32 := 4#32
  let v4 : BitVec 32 := Scalar.remsi v2 c4_i32_0
  let v870 : BitVec 32 := Scalar.addi v869 v4
  let c256_i32_661 : BitVec 32 := 256#32
  let v871 : BitVec 32 := Scalar.muli v870 c256_i32_661
  let v872 : Index := Scalar.indexCast v871
  let c0_662 : Index := 0#32
  ![v872.toNat, 0]
def k0_off7 (d0 : Dev nD) : Fin 2 → Nat :=
  let c4_i32_660 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let v869 : BitVec 32 := Scalar.muli c4_i32_660 v3
  let c4_i32_0 : BitVec 32 := 4#32
  let v4 : BitVec 32 := Scalar.remsi v2 c4_i32_0
  let v870 : BitVec 32 := Scalar.addi v869 v4
  let c256_i32_661 : BitVec 32 := 256#32
  let v871 : BitVec 32 := Scalar.muli v870 c256_i32_661
  let v901 : Index := Scalar.indexCast v871
  let c0_685 : Index := 0#32
  ![v901.toNat, 0]
def k0_off8 (d0 : Dev nD) : Fin 2 → Nat :=
  let c4_i32_660 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let v869 : BitVec 32 := Scalar.muli c4_i32_660 v3
  let c4_i32_0 : BitVec 32 := 4#32
  let v4 : BitVec 32 := Scalar.remsi v2 c4_i32_0
  let v870 : BitVec 32 := Scalar.addi v869 v4
  let c256_i32_661 : BitVec 32 := 256#32
  let v871 : BitVec 32 := Scalar.muli v870 c256_i32_661
  let v920 : Index := Scalar.indexCast v871
  let c1024_702 : Index := 1024#32
  ![v920.toNat, 1024]
abbrev stage0_0 : Fin 1 → Memref sig .tc .vmem S4096x256 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x2048 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .smem S1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S256x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== ReferenceIdeal.lean ====
abbrev S4096x4096 : Shape := ⟨2, ![4096, 4096]⟩
abbrev S4096x2048 : Shape := ⟨2, ![4096, 2048]⟩
abbrev S1 : Shape := ⟨1, ![1]⟩
abbrev S4096x1 : Shape := ⟨2, ![4096, 1]⟩
abbrev S4096x256 : Shape := ⟨2, ![4096, 256]⟩
abbrev S256x2048 : Shape := ⟨2, ![256, 2048]⟩

abbrev nBuf : Space → Nat
  | .hbm => 5
  | .vmem => 3
  | .smem => 2
  | _ => 0

abbrev bufTy : (tb : Table) → Fin (tcTables nBuf tb) → BufTy
  | .hbm, ⟨0, _⟩ => ⟨S4096x4096, .fp8e4m3⟩
  | .hbm, ⟨1, _⟩ => ⟨S4096x2048, .fp8e4m3⟩
  | .hbm, ⟨2, _⟩ => ⟨S1, .f32⟩
  | .hbm, ⟨3, _⟩ => ⟨S1, .f32⟩
  | .hbm, ⟨4, _⟩ => ⟨S4096x2048, .f32⟩
  | .local _ .vmem, ⟨0, _⟩ => ⟨S4096x4096, .fp8e4m3⟩
  | .local _ .vmem, ⟨1, _⟩ => ⟨S4096x2048, .fp8e4m3⟩
  | .local _ .vmem, ⟨2, _⟩ => ⟨S4096x2048, .f32⟩
  | .local _ .smem, ⟨0, _⟩ => ⟨S1, .f32⟩
  | .local _ .smem, ⟨1, _⟩ => ⟨S1, .f32⟩
  | _, _ => ⟨S4096x4096, .fp8e4m3⟩

abbrev bufScoped : (cs : CoreSpace) → Fin (nBuf (.core cs)) → Bool
  | .vmem, ⟨0, _⟩ => true
  | .vmem, ⟨1, _⟩ => true
  | .vmem, ⟨2, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg4_0 : Ref sig .tc := ⟨.vmem, 2, rfl⟩
abbrev cc0_stg2_0 : Ref sig .tc := ⟨.smem, 0, rfl⟩
abbrev cc0_stg3_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S4096x4096 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x2048 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .smem S1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4096x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== Proof.Prog.lean ====
/-
The kernel body, said again with its repetition named: the same operations in the same order, the slots, chunks and
peers given by an index instead of written out. `body_eq` says that it is the printed body, operation for operation.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Tactic

@[expose] public section

noncomputable section

namespace Cert.Scatter

open Cert.KernelIdeal Cert.KernelIdeal.Gen

open Idealize.ShloMosaic Idealize.ShloMosaic.TcCoe
open Idealize.SL Idealize.SL.Sem

variable {F : FTy → Type} [FloatOps F]

/-! ## The buffers -/

/-- This device's column block of `x` and row block of `w`, as staged. -/
abbrev mX : Memref sig .tc .vmem S4096x256 .fp8e4m3 := Memref.whole cc0_stg0_0
abbrev mW : Memref sig .tc .vmem S256x2048 .fp8e4m3 := Memref.whole cc0_stg1_0
/-- The two scales. -/
abbrev mSx : Memref sig .tc .smem S1 .f32 := Memref.whole cc0_stg2_0
abbrev mSw : Memref sig .tc .smem S1 .f32 := Memref.whole cc0_stg3_0
/-- The result block. -/
abbrev mOut : Memref sig .tc .vmem S256x2048 .f32 := Memref.whole cc0_stg4_0
/-- The partial products, sixteen row chunks. -/
abbrev mAcc : Memref sig .tc .vmem S4096x2048 .f32 := Memref.whole cc0_scratch0
/-- The rounded partials: twelve slots to send from, twelve to receive in. -/
abbrev mStA : Memref sig .tc .vmem S12x256x2048 .i8 := Memref.whole cc0_scratch1
abbrev mLdA : Memref sig .tc .vmem S12x256x2048 .i8 := Memref.whole cc0_scratch2
/-- The ring's running sums: six slots to send from, six to receive in. -/
abbrev mStB : Memref sig .tc .vmem S6x256x1024 .bf16 := Memref.whole cc0_scratch3
abbrev mLdB : Memref sig .tc .vmem S6x256x1024 .bf16 := Memref.whole cc0_scratch4

/-! ## Slots and chunks -/

theorem inbA (j : Fin 12) : ∀ a, (![j.val, 0, 0] : Fin 3 → ℕ) a + S1x256x2048.size a ≤ S12x256x2048.size a := by
  revert j; decide
theorem inbAh (j : Fin 12) (h : Fin 2) :
    ∀ a, (![j.val, 0, 1024 * h.val] : Fin 3 → ℕ) a + S1x256x1024.size a ≤ S12x256x2048.size a := by
  revert j h; decide
theorem inbB (j : Fin 6) : ∀ a, (![j.val, 0, 0] : Fin 3 → ℕ) a + S1x256x1024.size a ≤ S6x256x1024.size a := by
  revert j; decide

/-- Slot `j` of the twelve, as a rectangle; the left or right half of its columns; slot `j` of the six. -/
abbrev rA (j : Fin 12) : Rect S12x256x2048 := Rect.unit ![j.val, 0, 0] S1x256x2048.size (inbA j)
abbrev rAh (j : Fin 12) (h : Fin 2) : Rect S12x256x2048 := Rect.unit ![j.val, 0, 1024 * h.val] S1x256x1024.size (inbAh j h)
abbrev rB (j : Fin 6) : Rect S6x256x1024 := Rect.unit ![j.val, 0, 0] S1x256x1024.size (inbB j)

theorem packedA (j : Fin 12) : (rA j).PackedRows (EltTy.packing .i8) := by revert j; decide
theorem wordsA (j : Fin 12) : (rA j).WholeWords (EltTy.packing .i8) := by revert j; decide
theorem packedB (j : Fin 6) : (rB j).PackedRows (EltTy.packing .bf16) := by revert j; decide
theorem wordsB (j : Fin 6) : (rB j).WholeWords (EltTy.packing .bf16) := by revert j; decide

/-- A slot as the copies name it: its leading axis dropped. -/
abbrev slotA (m : Memref sig .tc .vmem S12x256x2048 .i8) (j : Fin 12) : Memref sig .tc .vmem S256x2048 .i8 :=
  (m.slice (rA j) (fun _ => rfl)).squeeze S256x2048 squeezes_S1x256x2048_S256x2048
abbrev slotB (m : Memref sig .tc .vmem S6x256x1024 .bf16) (j : Fin 6) : Memref sig .tc .vmem S256x1024 .bf16 :=
  (m.slice (rB j) (fun _ => rfl)).squeeze S256x1024 squeezes_S1x256x1024_S256x1024

theorem inbSemA (j : Fin 12) : ∀ a, (![j.val] : Fin 1 → ℕ) a + S1.size a ≤ S12.size a := by revert j; decide
theorem inbSemB (j : Fin 6) : ∀ a, (![j.val] : Fin 1 → ℕ) a + S1.size a ≤ S6.size a := by revert j; decide

/-- Semaphore `j` of an array of twelve, of six. -/
abbrev semA (a : DmaSems sig S12) (j : Fin 12) : DmaSem sig :=
  ((a.slice (Rect.unit (s := S12) ![j.val] S1.size (inbSemA j))).squeeze S_ squeezes_S1_S_).sem
abbrev semB (a : DmaSems sig S6) (j : Fin 6) : DmaSem sig :=
  ((a.slice (Rect.unit (s := S6) ![j.val] S1.size (inbSemB j))).squeeze S_ squeezes_S1_S_).sem

/-- The slot of the distance `p' + 1` round the plane and row chunk `k`; the landing slot that pairs with it: the
    sender at distance `p` sees the receiver at distance `4 - p`. -/
abbrev ix (p' : Fin 3) (k : Fin 4) : Fin 12 := ⟨4 * p'.val + k.val, by omega⟩
abbrev rev (p' : Fin 3) : Fin 3 := ⟨2 - p'.val, by omega⟩
/-- The ring's slot of step `s` and column half `h`. -/
abbrev ixB (s : Fin 3) (h : Fin 2) : Fin 6 := ⟨2 * s.val + h.val, by omega⟩

/-! ## The peers, as the printed text computes them -/

/-- The receiver of the slot of distance `p' + 1` and chunk `k`. -/
def devA (p' : Fin 3) (k : Fin 4) (c : Dev nD) : Dev nD :=
  match p', k with
  | 0, 0 => ⟨k0_dev6 c, k0_dev6_lt c⟩ | 1, 0 => ⟨k0_dev7 c, k0_dev7_lt c⟩ | 2, 0 => ⟨k0_dev8 c, k0_dev8_lt c⟩
  | 0, 1 => ⟨k0_dev9 c, k0_dev9_lt c⟩ | 1, 1 => ⟨k0_dev10 c, k0_dev10_lt c⟩ | 2, 1 => ⟨k0_dev11 c, k0_dev11_lt c⟩
  | 0, 2 => ⟨k0_dev12 c, k0_dev12_lt c⟩ | 1, 2 => ⟨k0_dev13 c, k0_dev13_lt c⟩ | 2, 2 => ⟨k0_dev14 c, k0_dev14_lt c⟩
  | 0, 3 => ⟨k0_dev15 c, k0_dev15_lt c⟩ | 1, 3 => ⟨k0_dev16 c, k0_dev16_lt c⟩ | 2, 3 => ⟨k0_dev17 c, k0_dev17_lt c⟩

/-- The receiver of the ring's slot `j`. -/
def devB (s : Fin 3) (h : Fin 2) (c : Dev nD) : Dev nD :=
  match s, h with
  | 0, 0 => ⟨k0_dev18 c, k0_dev18_lt c⟩ | 0, 1 => ⟨k0_dev19 c, k0_dev19_lt c⟩
  | 1, 0 => ⟨k0_dev20 c, k0_dev20_lt c⟩ | 1, 1 => ⟨k0_dev21 c, k0_dev21_lt c⟩
  | 2, 0 => ⟨k0_dev22 c, k0_dev22_lt c⟩ | 2, 1 => ⟨k0_dev23 c, k0_dev23_lt c⟩

/-- The receiver of the barrier signal `j`. -/
def devS (j : Fin 5) (c : Dev nD) : Dev nD :=
  match j with
  | 0 => ⟨k0_dev1 c, k0_dev1_lt c⟩ | 1 => ⟨k0_dev2 c, k0_dev2_lt c⟩ | 2 => ⟨k0_dev3 c, k0_dev3_lt c⟩
  | 3 => ⟨k0_dev4 c, k0_dev4_lt c⟩ | 4 => ⟨k0_dev5 c, k0_dev5_lt c⟩

/-! ## The steps -/

/-- A device's program. -/
abbrev Pr (F : FTy → Type) (α : Type) : Type 1 := Prog (TpuEff nD τ sig (Elt F) Λ₀ .tc) α

/-- The barrier's semaphore. -/
abbrev barSem : Sem sig := (SemArray.scalar (sig.barrier 0 rfl) : Sems sig S_).sem

/-- One signal of the entry barrier. -/
def signalStep (c : Dev nD) (j : Fin 5) : Pr F PUnit := semSignalWord (devS j c) barSem 1#32

/-- The chunk of distance `q`, step `k`: its product stored in the accumulator. Gives the product's left operand back. -/
def partStep (c : Dev nD) (w : FVec F S256x2048 .bf16) (k q : Fin 4) : Pr F (Vec F S256x256 .fp8e4m3) := do
  let xb : Vec F S256x256 .fp8e4m3 ← Prog.lift (.load mX (Rect.unit (s := S4096x256) (k0_off1 c (BitVec.ofNat 32 k.val) (BitVec.ofNat 32 q.val)) S256x256.size (k0_off1_inb c k q)).toLoadRect (View.loadsAt_vmem h_S256x256))
  let _old : Vec F S256x2048 .f32 ← Prog.lift (.load mAcc (Rect.unit (s := S4096x2048) (k0_off2 c (BitVec.ofNat 32 k.val) (BitVec.ofNat 32 q.val)) S256x2048.size (k0_off2_inb c k q)).toLoadRect (View.loadsAt_vmem h_S256x2048))
  Prog.lift (.store mAcc (Rect.unit (s := S4096x2048) (k0_off2 c (BitVec.ofNat 32 k.val) (BitVec.ofNat 32 q.val)) S256x2048.size (k0_off2_inb c k q)) (k0_pay16 w xb) Finset.univ (View.stores_vmem_bits_univ h_S256x2048 rfl) (.inl rfl))
  pure xb

/-- The copy of the rounded partial of distance `p' + 1`, step `k`, to its receiver. -/
def sendA (c : Dev nD) (p' : Fin 3) (k : Fin 4) : Pr F PUnit :=
  Prog.lift (.enqueueDma (slotA mStA (ix p' k)) (.remote (Dev.tc (devA p' k c)) (slotA mLdA (ix (rev p') k)) (.dma (semA cc0_scratch5 (ix p' k)))) (.dma (semA cc0_scratch6 (ix (rev p') k)))
    (((Memref.isWhole_whole cc0_scratch1).wordExact_slice rfl _ (wordsA _)).reshape _ _) (((Memref.isWhole_whole cc0_scratch2).wordExact_slice rfl _ (wordsA _)).reshape _ _) ⟨⟨rfl, Or.inl rfl⟩, trivial⟩)

/-- Distance `p' + 1`, step `k`: the product, its rounding into the slot, the copy. -/
def stepA (c : Dev nD) (w : FVec F S256x2048 .bf16) (k : Fin 4) (p' : Fin 3) : Pr F PUnit := do
  let xb ← partStep c w k ⟨p'.val + 1, by omega⟩
  let _old : Vec F S1x256x2048 .i8 ← Prog.lift (.load mStA (rA (ix p' k)).toLoadRect (View.loadsAt_vmem h_S1x256x2048))
  Prog.lift (.store mStA (rA (ix p' k)) (k0_pay17 w xb) Finset.univ (View.stores_vmem h_S1x256x2048 ((Memref.isWhole_whole cc0_scratch1).storeExact_slice rfl _ (packedA _)) (fun _ => rfl)) (.inl rfl))
  sendA c p' k

/-- Step `k`: the three distances, then the chunk kept here. -/
def roundA (c : Dev nD) (w : FVec F S256x2048 .bf16) (k : Fin 4) : Pr F PUnit := do
  stepA c w k 0
  stepA c w k 1
  stepA c w k 2
  let _xb ← partStep c w k 0
  pure ⟨⟩

/-- The wait for the rounded partial landing in the slot of distance `p' + 1`, step `k`. -/
def recvA (k : Fin 4) (p' : Fin 3) : Pr F PUnit :=
  Prog.lift (.waitDma2 (semA cc0_scratch6 (ix p' k)) (slotA mStA (ix (rev p') k)) (slotA mLdA (ix p' k))
    (((Memref.isWhole_whole cc0_scratch1).wordExact_slice rfl _ (wordsA _)).reshape _ _) (((Memref.isWhole_whole cc0_scratch2).wordExact_slice rfl _ (wordsA _)).reshape _ _))

/-- The wait for this device's own copy out of the slot of distance `p' + 1`, step `k`. -/
def sentA (k : Fin 4) (p' : Fin 3) : Pr F PUnit :=
  Prog.lift (.waitDma2 (semA cc0_scratch5 (ix p' k)) (slotA mLdA (ix (rev p') k)) (slotA mStA (ix p' k))
    (((Memref.isWhole_whole cc0_scratch2).wordExact_slice rfl _ (wordsA _)).reshape _ _) (((Memref.isWhole_whole cc0_scratch1).wordExact_slice rfl _ (wordsA _)).reshape _ _))

/-- The same waits of the ring's slots. -/
def recvB (s : Fin 3) (h : Fin 2) : Pr F PUnit :=
  Prog.lift (.waitDma2 (semB cc0_scratch8 (ixB s h)) (slotB mStB (ixB s h)) (slotB mLdB (ixB s h))
    (((Memref.isWhole_whole cc0_scratch3).wordExact_slice rfl _ (wordsB _)).reshape _ _) (((Memref.isWhole_whole cc0_scratch4).wordExact_slice rfl _ (wordsB _)).reshape _ _))
def sentB (s : Fin 3) (h : Fin 2) : Pr F PUnit :=
  Prog.lift (.waitDma2 (semB cc0_scratch7 (ixB s h)) (slotB mLdB (ixB s h)) (slotB mStB (ixB s h))
    (((Memref.isWhole_whole cc0_scratch4).wordExact_slice rfl _ (wordsB _)).reshape _ _) (((Memref.isWhole_whole cc0_scratch3).wordExact_slice rfl _ (wordsB _)).reshape _ _))

/-- The ring's copy of slot `(s, h)`. -/
def sendB (c : Dev nD) (s : Fin 3) (h : Fin 2) : Pr F PUnit :=
  Prog.lift (.enqueueDma (slotB mStB (ixB s h)) (.remote (Dev.tc (devB s h c)) (slotB mLdB (ixB s h)) (.dma (semB cc0_scratch7 (ixB s h)))) (.dma (semB cc0_scratch8 (ixB s h)))
    (((Memref.isWhole_whole cc0_scratch3).wordExact_slice rfl _ (wordsB _)).reshape _ _) (((Memref.isWhole_whole cc0_scratch4).wordExact_slice rfl _ (wordsB _)).reshape _ _) ⟨⟨rfl, Or.inl rfl⟩, trivial⟩)

/-- Where the left or right half of the chunk kept at ring step `s` starts in the accumulator. -/
def offH (c : Dev nD) (s : Fin 3) (h : Fin 2) : Fin 2 → ℕ :=
  match h with
  | 0 => k0_off3 c (BitVec.ofNat 32 s.val)
  | 1 => k0_off4 c (BitVec.ofNat 32 s.val)
theorem offH_inb (c : Dev nD) (s : Fin 3) (h : Fin 2) : ∀ a, offH c s h a + S256x1024.size a ≤ S4096x2048.size a :=
  match h with
  | 0 => k0_off3_inb c s
  | 1 => k0_off4_inb c s

/-- The half read from the accumulator. -/
def loadH (c : Dev nD) (s : Fin 3) (h : Fin 2) : Pr F (Vec F S256x1024 .f32) :=
  Prog.lift (.load mAcc (Rect.unit (s := S4096x2048) (offH c s h) S256x1024.size (offH_inb c s h)).toLoadRect (View.loadsAt_vmem h_S256x1024))

/-- A value stored in the ring's slot `(s, h)` and sent on. -/
def putB (c : Dev nD) (s : Fin 3) (h : Fin 2) (v : FVec F S1x256x1024 .bf16) : Pr F PUnit := do
  let _old : Vec F S1x256x1024 .bf16 ← Prog.lift (.load mStB (rB (ixB s h)).toLoadRect (View.loadsAt_vmem h_S1x256x1024))
  Prog.lift (.store mStB (rB (ixB s h)) v Finset.univ (View.stores_vmem h_S1x256x1024 ((Memref.isWhole_whole cc0_scratch3).storeExact_slice rfl _ (packedB _)) (fun _ => rfl)) (.inl rfl))
  sendB c s h

/-- The first ring step's half: the chunk kept here and the three received ones. -/
def half0 (c : Dev nD) (h : Fin 2) : Pr F PUnit := do
  let a ← loadH c 0 h
  let l0 : Vec F S1x256x1024 .i8 ← Prog.lift (.load mLdA (rAh (ix 0 0) h).toLoadRect (View.loadsAt_vmem h_S1x256x1024))
  let l1 : Vec F S1x256x1024 .i8 ← Prog.lift (.load mLdA (rAh (ix 1 0) h).toLoadRect (View.loadsAt_vmem h_S1x256x1024))
  let l2 : Vec F S1x256x1024 .i8 ← Prog.lift (.load mLdA (rAh (ix 2 0) h).toLoadRect (View.loadsAt_vmem h_S1x256x1024))
  putB c 0 h (k0_pay45 a l0 l1 l2)

/-- The three received partials of step `k` waited for. -/
def recv3 (k : Fin 4) : Pr F PUnit := do
  recvA k 2
  recvA k 1
  recvA k 0

/-- Where the chunk kept at steps 1, 2, 3 starts in the accumulator. -/
def offK (c : Dev nD) (s : Fin 3) : Fin 2 → ℕ :=
  match s with
  | 0 => k0_off5 c (BitVec.ofNat 32 1)
  | 1 => k0_off5 c (BitVec.ofNat 32 2)
  | 2 => k0_off6 c
theorem offK_inb (c : Dev nD) (s : Fin 3) : ∀ a, offK c s a + S256x2048.size a ≤ S4096x2048.size a :=
  match s with
  | 0 => k0_off5_inb c 0
  | 1 => k0_off5_inb c 1
  | 2 => k0_off6_inb c

/-- The chunk kept at step `s + 1` with the three received partials added. -/
def addA (c : Dev nD) (s : Fin 3) : Pr F PUnit := do
  let a : Vec F S256x2048 .f32 ← Prog.lift (.load mAcc (Rect.unit (s := S4096x2048) (offK c s) S256x2048.size (offK_inb c s)).toLoadRect (View.loadsAt_vmem h_S256x2048))
  let l0 : Vec F S1x256x2048 .i8 ← Prog.lift (.load mLdA (rA (ix 0 s.succ)).toLoadRect (View.loadsAt_vmem h_S1x256x2048))
  let l1 : Vec F S1x256x2048 .i8 ← Prog.lift (.load mLdA (rA (ix 1 s.succ)).toLoadRect (View.loadsAt_vmem h_S1x256x2048))
  let l2 : Vec F S1x256x2048 .i8 ← Prog.lift (.load mLdA (rA (ix 2 s.succ)).toLoadRect (View.loadsAt_vmem h_S1x256x2048))
  let _old : Vec F S256x2048 .f32 ← Prog.lift (.load mAcc (Rect.unit (s := S4096x2048) (offK c s) S256x2048.size (offK_inb c s)).toLoadRect (View.loadsAt_vmem h_S256x2048))
  Prog.lift (.store mAcc (Rect.unit (s := S4096x2048) (offK c s) S256x2048.size (offK_inb c s)) (k0_pay47 a l0 l1 l2) Finset.univ (View.stores_vmem_bits_univ h_S256x2048 rfl) (.inl rfl))

/-- A later ring step's half: what arrived from the ring added and sent on. -/
def half1 (c : Dev nD) (s : Fin 2) (h : Fin 2) : Pr F PUnit := do
  recvB s.castSucc h
  let a ← loadH c s.succ h
  let l : Vec F S1x256x1024 .bf16 ← Prog.lift (.load mLdB (rB (ixB s.castSucc h)).toLoadRect (View.loadsAt_vmem h_S1x256x1024))
  putB c s.succ h (k0_pay48 a l)

/-- Where this device's own chunk's half starts in the accumulator, and in the result block. -/
def offL (c : Dev nD) (h : Fin 2) : Fin 2 → ℕ :=
  match h with
  | 0 => k0_off7 c
  | 1 => k0_off8 c
theorem offL_inb (c : Dev nD) (h : Fin 2) : ∀ a, offL c h a + S256x1024.size a ≤ S4096x2048.size a :=
  match h with
  | 0 => k0_off7_inb c
  | 1 => k0_off8_inb c
theorem inbO (h : Fin 2) : ∀ a, (![0, 1024 * h.val] : Fin 2 → ℕ) a + S256x1024.size a ≤ S256x2048.size a := by
  revert h; decide
abbrev rO (h : Fin 2) : Rect S256x2048 := Rect.unit ![0, 1024 * h.val] S256x1024.size (inbO h)

/-- A half of the result: the ring's last sum added, scaled, cut below at zero. -/
def halfO (c : Dev nD) (sc : F .f32) (h : Fin 2) : Pr F PUnit := do
  recvB 2 h
  let a : Vec F S256x1024 .f32 ← Prog.lift (.load mAcc (Rect.unit (s := S4096x2048) (offL c h) S256x1024.size (offL_inb c h)).toLoadRect (View.loadsAt_vmem h_S256x1024))
  let l : Vec F S1x256x1024 .bf16 ← Prog.lift (.load mLdB (rB (ixB 2 h)).toLoadRect (View.loadsAt_vmem h_S1x256x1024))
  let _old : Vec F S256x1024 .f32 ← Prog.lift (.load mOut (rO h).toLoadRect (View.loadsAt_vmem h_S256x1024))
  Prog.lift (.store mOut (rO h) (k0_pay56 sc a l) Finset.univ (View.stores_vmem_bits_univ h_S256x1024 rfl) (.inl rfl))

/-- The two scales' product. -/
def scaleStep : Pr F (F .f32) := do
  let sx : Elt F .f32 ← smemLoad mSx (Rect.unit (s := S1) ![0] S1.size inb_S1_S1_0) numel1_S1 rfl
  let sw : Elt F .f32 ← smemLoad mSw (Rect.unit (s := S1) ![0] S1.size inb_S1_S1_0) numel1_S1 rfl
  pure (k0_pay55 sx sw)

/-- The waits for the copies out of the slots of step `k`. -/
def sent3 (k : Fin 4) : Pr F PUnit := do
  sentA k 0
  sentA k 1
  sentA k 2

/-- `w` read and widened. -/
def loadW : Pr F (FVec F S256x2048 .bf16) := do
  let w : Vec F S256x2048 .fp8e4m3 ← Prog.lift (.load mW (Rect.unit (s := S256x2048) ![0, 0] S256x2048.size inb_S256x2048_S256x2048_0_0).toLoadRect (View.loadsAt_vmem h_S256x2048))
  pure (k0_pay1 w)

/-- The entry barrier. -/
def barrier (c : Dev nD) : Pr F PUnit := do
  signalStep c 0
  signalStep c 1
  signalStep c 2
  signalStep c 3
  signalStep c 4
  semWaitWord barSem 5#32

/-- The first phase. -/
def phaseA (c : Dev nD) (w : FVec F S256x2048 .bf16) : Pr F PUnit := do
  roundA c w 0
  roundA c w 1
  roundA c w 2
  roundA c w 3

/-- The ring. -/
def phaseB (c : Dev nD) : Pr F PUnit := do
  recv3 0
  half0 c 0
  half0 c 1
  recv3 1
  addA c 0
  half1 c 0 0
  half1 c 0 1
  recv3 2
  addA c 1
  half1 c 1 0
  half1 c 1 1

/-- The result. -/
def phaseC (c : Dev nD) : Pr F PUnit := do
  recv3 3
  addA c 2
  let sc ← scaleStep
  halfO c sc 0
  halfO c sc 1

/-- The waits for this device's own copies. -/
def drain : Pr F PUnit := do
  sent3 0
  sent3 1
  sent3 2
  sent3 3
  sentB 0 0
  sentB 0 1
  sentB 1 0
  sentB 1 1
  sentB 2 0
  sentB 2 1

/-- The whole body. -/
def body : Pr F PUnit := do
  let c : Dev nD ← Prog.lift .deviceId
  barrier c
  let w ← loadW
  phaseA c w
  phaseB c
  phaseC c
  drain

set_option maxRecDepth 65536 in
theorem body_eq : (bodyAt0 t0_0 : Pr F PUnit) = body := by
  chain_rfl

end Cert.Scatter

end
-- ==== Proof.Mesh.lean ====
/-
The mesh of four planes of four devices: device `4 a + b` is column `b` of plane `a`. The peers the kernel addresses, and
the sixteen row chunks in the order a device forms them.
-/
module

public import proofs.«01_k».proof.Proof.Prog

@[expose] public section

noncomputable section

namespace Cert.Scatter

open Cert.KernelIdeal Cert.KernelIdeal.Gen

open Idealize.ShloMosaic Idealize.ShloMosaic.TcCoe

/-! ## The peers -/

set_option backward.proofsInPublic true in
/-- The device of the same plane `p + 1` columns on. -/
def pl (c : Dev nD) (p : Fin 3) : Dev nD := ⟨4 * (c.val / 4) + (c.val % 4 + (p.val + 1)) % 4, by have := c.isLt; simp only [nD] at *; omega⟩
set_option backward.proofsInPublic true in
/-- The device of the same column in the next plane; in the plane before. -/
def zr (c : Dev nD) : Dev nD := ⟨4 * ((c.val / 4 + 1) % 4) + c.val % 4, by have := c.isLt; simp only [nD] at *; omega⟩
set_option backward.proofsInPublic true in
def zl (c : Dev nD) : Dev nD := ⟨4 * ((c.val / 4 + 3) % 4) + c.val % 4, by have := c.isLt; simp only [nD] at *; omega⟩

theorem rev_rev (p : Fin 3) : rev (rev p) = p := by revert p; decide
theorem pl_pl (c : Dev nD) (p : Fin 3) : pl (pl c p) (rev p) = c := by revert c p; decide
theorem pl_pl' (c : Dev nD) (p : Fin 3) : pl (pl c (rev p)) p = c := by revert c p; decide
theorem zl_zr (c : Dev nD) : zl (zr c) = c := by revert c; decide
theorem zr_zl (c : Dev nD) : zr (zl c) = c := by revert c; decide

/-- The device the entry barrier's signal `j` goes to, and the one it comes from. -/
def bar (j : Fin 5) (c : Dev nD) : Dev nD := match j with | 0 => pl c 0 | 1 => pl c 1 | 2 => pl c 2 | 3 => zl c | 4 => zr c
def unbar (j : Fin 5) (c : Dev nD) : Dev nD := match j with | 0 => pl c 2 | 1 => pl c 1 | 2 => pl c 0 | 3 => zr c | 4 => zl c
theorem unbar_bar (j : Fin 5) (c : Dev nD) : unbar j (bar j c) = c := by revert j c; decide
theorem bar_unbar (j : Fin 5) (c : Dev nD) : bar j (unbar j c) = c := by revert j c; decide

theorem devS_eq (j : Fin 5) (c : Dev nD) : devS j c = bar j c := by
  fin_cases j
  · exact Fin.ext (k0_dev1_eq c)
  · exact Fin.ext (k0_dev2_eq c)
  · exact Fin.ext (k0_dev3_eq c)
  · exact Fin.ext (k0_dev4_eq c)
  · exact Fin.ext (k0_dev5_eq c)

theorem devA_eq (p : Fin 3) (k : Fin 4) (c : Dev nD) : devA p k c = pl c p := by
  fin_cases k <;> fin_cases p
  · exact Fin.ext (k0_dev6_eq c)
  · exact Fin.ext (k0_dev7_eq c)
  · exact Fin.ext (k0_dev8_eq c)
  · exact Fin.ext (k0_dev9_eq c)
  · exact Fin.ext (k0_dev10_eq c)
  · exact Fin.ext (k0_dev11_eq c)
  · exact Fin.ext (k0_dev12_eq c)
  · exact Fin.ext (k0_dev13_eq c)
  · exact Fin.ext (k0_dev14_eq c)
  · exact Fin.ext (k0_dev15_eq c)
  · exact Fin.ext (k0_dev16_eq c)
  · exact Fin.ext (k0_dev17_eq c)

theorem devB_eq (s : Fin 3) (h : Fin 2) (c : Dev nD) : devB s h c = zr c := by
  fin_cases s <;> fin_cases h
  · exact Fin.ext (k0_dev18_eq c)
  · exact Fin.ext (k0_dev19_eq c)
  · exact Fin.ext (k0_dev20_eq c)
  · exact Fin.ext (k0_dev21_eq c)
  · exact Fin.ext (k0_dev22_eq c)
  · exact Fin.ext (k0_dev23_eq c)

/-! ## The row chunks -/

set_option backward.proofsInPublic true in
/-- The chunk of step `k` for the column `q` columns on. -/
def chunk (c : Dev nD) (k q : Fin 4) : Fin 16 := ⟨4 * ((c.val / 4 + 3 - k.val) % 4) + (c.val % 4 + q.val) % 4, by omega⟩

theorem chunk_inj (c : Dev nD) : Function.Injective fun kq : Fin 4 × Fin 4 => chunk c kq.1 kq.2 := by revert c; decide
/-- A device forms each chunk once. -/
def chunks (c : Dev nD) : Fin 4 × Fin 4 ≃ Fin 16 :=
  Equiv.ofBijective _ ((Fintype.bijective_iff_injective_and_card _).mpr ⟨chunk_inj c, by simp⟩)
theorem chunks_apply (c : Dev nD) (kq : Fin 4 × Fin 4) : chunks c kq = chunk c kq.1 kq.2 := rfl

/-- What a peer of the plane forms for this device at step `k` is the chunk this device keeps at step `k`. -/
theorem chunk_pl (c : Dev nD) (p : Fin 3) (k : Fin 4) : chunk (pl c p) k ⟨(rev p).val + 1, by omega⟩ = chunk c k 0 := by
  revert c p k; decide
/-- The chunk kept at step `k + 1` is the one the plane before kept at step `k`; at the last step it is the device's own. -/
theorem chunk_zl (c : Dev nD) (s : Fin 3) : chunk (zl c) s.castSucc 0 = chunk c s.succ 0 := by revert c s; decide
theorem chunk_own (c : Dev nD) : (chunk c 3 0).val = c.val := by revert c; decide

theorem inbC (i : Fin 16) : ∀ a, (![256 * i.val, 0] : Fin 2 → ℕ) a + S256x2048.size a ≤ S4096x2048.size a := by revert i; decide
/-- Chunk `i` of the accumulator. -/
abbrev rC (i : Fin 16) : Rect S4096x2048 := Rect.unit ![256 * i.val, 0] S256x2048.size (inbC i)
theorem inbX (i : Fin 16) : ∀ a, (![256 * i.val, 0] : Fin 2 → ℕ) a + S256x256.size a ≤ S4096x256.size a := by revert i; decide
/-- Chunk `i` of the staged block of `x`. -/
abbrev rX (i : Fin 16) : Rect S4096x256 := Rect.unit ![256 * i.val, 0] S256x256.size (inbX i)

theorem chunk_val (c : Dev nD) (k q : Fin 4) :
    1024 * ((c.val / 4 + 3 - k.val) % 4) + 256 * ((c.val % 4 + q.val) % 4) = 256 * (chunk c k q).val := by
  simp only [chunk]; omega

theorem off1_eq (c : Dev nD) (k q : Fin 4) : k0_off1 c (BitVec.ofNat 32 k.val) (BitVec.ofNat 32 q.val) = ![256 * (chunk c k q).val, 0] := by
  rw [k0_off1_eq, chunk_val]
theorem off2_eq (c : Dev nD) (k q : Fin 4) : k0_off2 c (BitVec.ofNat 32 k.val) (BitVec.ofNat 32 q.val) = ![256 * (chunk c k q).val, 0] := by
  rw [k0_off2_eq, chunk_val]
theorem offH_eq (c : Dev nD) (s : Fin 3) (h : Fin 2) : offH c s h = ![256 * (chunk c s.castSucc 0).val, 1024 * h.val] := by
  have e := chunk_val c s.castSucc 0
  fin_cases h
  · exact (k0_off3_eq c s).trans (by rw [← e]; simp [Nat.mod_mod])
  · exact (k0_off4_eq c s).trans (by rw [← e]; simp [Nat.mod_mod])
theorem offK_eq (c : Dev nD) (s : Fin 3) : offK c s = ![256 * (chunk c s.succ 0).val, 0] := by
  revert c s; decide +kernel
theorem offL_eq (c : Dev nD) (h : Fin 2) : offL c h = ![256 * (chunk c 3 0).val, 1024 * h.val] := by
  revert c h; decide +kernel

end Cert.Scatter

end
-- ==== Proof.Slots.lean ====
/-
Memory in pieces. A buffer is held slot by slot, each slot by what it reads. Here: loads and stores at a slot, a copy
from a slot into a slot, and the whole buffer cut into its slots and put together again.
-/
module

public import proofs.«01_k».proof.Proof.Mesh
public import Idealize.ShloMosaic.Lib.ViewIndex
public import Idealize.ShloMosaic.Lib.Memref

@[expose] public section

noncomputable section

namespace Cert.Scatter

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra -/

abbrev UB : Type := URounds (GSem nD τ sig) (Fin 5)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

abbrev 𝒱₀ : Variants := Variants.none

/-- The weakest precondition of a stretch of device `c`'s program. -/
abbrev wpB (c : Dev nD) {α : Type} (p : Pr F α) (Q : α → sProp (MT nD τ sig Unit (Elt F) ℕ UU ℕ)) : sProp (MT nD τ sig Unit (Elt F) ℕ UU ℕ) :=
  wp frame (wpE (defs₀ (F := F)) 𝒱₀ (c : Thread nD τ) none) Set.univ p Q

/-- Device `c` holds the part of `m` under `r`, which reads `X`. -/
abbrev at_ (c : Dev nD) {sp : Space} {s : Shape} {e : EltTy} (m : Memref sig .tc sp s e) (r : Rect s) (hr : ∀ a, r.stride a = 1)
    (X : r.shape.Idx → Elt F e) : sProp (MT nD τ sig Unit (Elt F) ℕ UU ℕ) :=
  owns (c : Thread nD τ) (m.slice r hr) fullShare X

/-! ## Loads and stores -/

section Access

variable {c : Dev nD} {s : Shape} {e : EltTy} {cs : CoreSpace} {m : Memref sig .tc cs s e}

/-- A load inside a held part: the value is the part's, at the place `ι` of the load's rectangle in it. -/
theorem wp_load_in {r r' : Rect s} (hr : ∀ a, r.stride a = 1) (ι : r'.shape.Idx → r.shape.Idx)
    (hι : ∀ j, r'.emb j = r.emb (ι j)) {hl : m.view.LoadsAt r'.toLoadRect}
    {α : Type} {Q : α → sProp 𝕄} {k : (r'.shape.Idx → Elt F e) → Pr F α} {X : r.shape.Idx → Elt F e} :
    at_ c m r hr X ⊢ iprop((at_ c m r hr X -∗ wpB c (k fun j => X (ι j)) Q) -∗ wpB c (.op (.load m r'.toLoadRect hl) k) Q) := by
  have hS : (m.access r').set ⊆ (m.slice r hr).view.set := by
    intro i hi
    obtain ⟨x, -, rfl⟩ := Finset.mem_map.mp hi
    exact Finset.mem_map.mpr ⟨ι x, Finset.mem_univ _, congrArg m.view.emb (hι x).symm⟩
  unfold at_ owns
  iintro ⟨%f, %hf, H⟩ Hk
  iapply (wp_load_rect (defs := defs₀ (F := F)) 𝒱₀ (c : Thread nD τ) none Set.univ (m := m) (r := r') (k := k) (Q := Q) (q := fullShare) (f := f) hS) $$ H
  iintro H
  rw [show (m.access r').read (Elt F) f = fun j => X (ι j) from funext fun j => by
    subst hf; exact congrArg (fun y => m.view.read (Elt F) f y) (hι j)]
  iapply Hk
  iexists f; isplitr; · (ipureintro; exact hf)
  iexact H

/-- A load of exactly a held part, the offset written another way. -/
theorem wp_load_at {off off' size : Fin s.rank → ℕ} {h : ∀ a, off a + size a ≤ s.size a} {h' : ∀ a, off' a + size a ≤ s.size a}
    (ho : off' = off) {hl : m.view.LoadsAt (Rect.unit off' size h').toLoadRect}
    {α : Type} {Q : α → sProp 𝕄} {k : ((Rect.unit off' size h').shape.Idx → Elt F e) → Pr F α} {X : (Rect.unit off size h).shape.Idx → Elt F e} :
    at_ c m (Rect.unit off size h) (fun _ => rfl) X
      ⊢ iprop((at_ c m (Rect.unit off size h) (fun _ => rfl) X -∗ wpB c (k X) Q) -∗ wpB c (.op (.load m (Rect.unit off' size h').toLoadRect hl) k) Q) := by
  subst ho
  exact wp_load_in _ (fun j => j) (fun _ => rfl)

/-- A store over exactly a held part, the offset written another way. -/
theorem wp_store_at {off off' size : Fin s.rank → ℕ} {h : ∀ a, off a + size a ≤ s.size a} {h' : ∀ a, off' a + size a ≤ s.size a}
    (ho : off' = off) {w : (Rect.unit off' size h').shape.Idx → Elt F e} {hx : (m.access (Rect.unit off' size h')).Stores Finset.univ}
    {hm : Finset.univ = Finset.univ ∨ ∀ a, (Rect.unit off' size h').stride a = 1}
    {α : Type} {Q : α → sProp 𝕄} {k : PUnit → Pr F α} {X : (Rect.unit off size h).shape.Idx → Elt F e} :
    at_ c m (Rect.unit off size h) (fun _ => rfl) X
      ⊢ iprop((at_ c m (Rect.unit off size h) (fun _ => rfl) w -∗ wpB c (k ⟨⟩) Q) -∗ wpB c (.op (.store m (Rect.unit off' size h') w Finset.univ hx hm) k) Q) := by
  subst ho
  unfold at_ owns
  iintro ⟨%f, %hf, H⟩ Hk
  iapply (wp_store (defs := defs₀ (F := F)) 𝒱₀ (c : Thread nD τ) none Set.univ (m := m) (r := Rect.unit off' size h) (w := w) (Mk := Finset.univ) (k := k) (Q := Q)
    (S := (m.access (Rect.unit off' size h)).set) (f := f) (Finset.Subset.refl _)) $$ H
  iintro H
  iapply Hk
  iexists (m.access (Rect.unit off' size h)).write (Elt F) f w Finset.univ; isplitr
  · ipureintro; exact View.read_write_univ _ _
  iexact H

end Access

/-! ## A copy from a slot into a slot -/

theorem read_squeeze {sp sp' : Space} {s s' : Shape} {e : EltTy} (v : View sig .tc sp s e) (v' : View sig .tc sp' s e) (h : s'.numel = s.numel)
    (fd : v'.ty.Contents (Elt F)) (fs : v.ty.Contents (Elt F)) :
    v'.read (Elt F) ((v'.reshape s' h).write (Elt F) fd ((v.reshape s' h).read (Elt F) fs) Finset.univ) = v.read (Elt F) fs := by
  funext x
  obtain ⟨y, rfl⟩ := (Shape.reshapeEquiv h).surjective x
  exact View.read_write_reshape v' h fd _ y

/-- A remote copy between two memrefs, both seen without a unit axis: the source goes to the sending cell, what it held
    to the receiving one. -/
theorem wp_send_squeezed (Rd : Schedule (GSem nD τ sig) (Fin 5) 𝕄) [∀ g r d, BI.Storable (upEmb : UEmb _ 𝕄) (Rd.payload g r d)]
    {c c' n : Dev nD} (hn : n = c') {s s' : Shape} {e : EltTy} {m₁ m₂ : Memref sig .tc .vmem s e} {h : s.Squeezes s'} {sS sR : DmaSem sig}
    {hsc : (m₂.squeeze s' h).view.ref.isScScratch = false}
    {hsrc : (m₁.squeeze s' h).view.WordExact} {hdst : (m₂.squeeze s' h).view.WordExact}
    {hsem : DmaTarget.Typed .vmem (.dma sR) (.remote (Dev.tc n : Thread nD τ) (m₂.squeeze s' h) (.dma sS) hsc)}
    {α : Type} {Q : α → sProp 𝕄} {k : PUnit → Pr F α} {X : s.Idx → Elt F e} {κ₁ κ₂ : ℕ} {d₁ d₂ : Fin 5}
    (hd₁ : d₁ ∈ Rd.duties ((c : Thread nD τ), .dma sS) 0) (hd₂ : d₂ ∈ Rd.duties ((c' : Thread nD τ), .dma sR) 0)
    (N : ℕ) (hN : (m₂.squeeze s' h).view.dmaCredit = N)
    (hk₁ : Rd.amount ((c : Thread nD τ), .dma sS) 0 d₁ = N) (hk₂ : Rd.amount ((c' : Thread nD τ), .dma sR) 0 d₂ = N)
    {O₀ : CellTallies nD τ sig Unit} (O : CellTallies nD τ sig Unit) (hO : O₀ = O + tallyAt ((c' : Thread nD τ), .dma sR) () N) {W : Waits sig Unit}
    (hpay₁ : owns (c : Thread nD τ) m₁ fullShare X ⊢ Rd.payload ((c : Thread nD τ), .dma sS) 0 d₁)
    (hpay₂ : owns (c' : Thread nD τ) m₂ fullShare X ⊢ Rd.payload ((c' : Thread nD τ), .dma sR) 0 d₂) :
    iprop(cellInv ER Rd κ₁ ((c : Thread nD τ), .dma sS) ∗ cellInv ER Rd κ₂ ((c' : Thread nD τ), .dma sR)
        ∗ owns (c : Thread nD τ) m₁ fullShare X ∗ (∃ Y, owns (c' : Thread nD τ) m₂ fullShare Y)
        ∗ owes (c : Thread nD τ) O₀ W
        ∗ dutyTok ER ((c : Thread nD τ), .dma sS) 0 d₁ ∗ reached ER ((c : Thread nD τ), .dma sS) 0
        ∗ dutyTok ER ((c' : Thread nD τ), .dma sR) 0 d₂ ∗ reached ER ((c' : Thread nD τ), .dma sR) 0)
      ⊢ iprop(((cred (tallyAt ((c : Thread nD τ), .dma sS) () N) ∗ owes (c : Thread nD τ) O W) -∗ wpB c (k ⟨⟩) Q)
          -∗ wpB c (.op (.enqueueDma (m₁.squeeze s' h) (.remote (Dev.tc n : Thread nD τ) (m₂.squeeze s' h) (.dma sS) hsc) (.dma sR) hsrc hdst hsem) k) Q) := by
  subst hn
  have ho₁ : owns (c : Thread nD τ) m₁ fullShare X ⊢ (iprop(∃ f, ⌜m₁.view.read (Elt F) f = X⌝ ∗ (m₁.view.loc (c : Thread nD τ) ↦[m₁.view.set]{fullShare} f)) : sProp 𝕄) := .rfl
  have ho₂ (Y) : owns (n : Thread nD τ) m₂ fullShare Y ⊢ (iprop(∃ f, ⌜m₂.view.read (Elt F) f = Y⌝ ∗ (m₂.view.loc (n : Thread nD τ) ↦[m₂.view.set]{fullShare} f)) : sProp 𝕄) := .rfl
  iintro ⟨#HI₁, #HI₂, Hs, ⟨%Y, Hd⟩, HO, Ht₁, #Hr₁, Ht₂, #Hr₂⟩ Hk
  ihave Hs' := ho₁ $$ Hs
  icases Hs' with ⟨%fs, %hfs, Hs⟩
  ihave Hd' := (ho₂ Y) $$ Hd
  icases Hd' with ⟨%fd, -, Hd⟩
  subst hfs
  iapply (Rounds.wp_send_pointsTo 𝒱₀ ER Rd (c : Thread nD τ) none (c' := (n : Thread nD τ)) (src := m₁.squeeze s' h) (dst := m₂.squeeze s' h) (κ₁ := κ₁) (κ₂ := κ₂)
      (r₁ := 0) (r₂ := 0) (fs := fs) (fd := fd) (q := fullShare) hd₁ hd₂ () () N hN hk₁ hk₂ O hO
      (by
        rw [show (m₁.squeeze s' h).view.set = m₁.view.set from View.set_reshape _ _]
        exact (owns_intro (c : Thread nD τ) m₁ fullShare fs).trans hpay₁)
      (by
        rw [show (m₂.squeeze s' h).view.set = m₂.view.set from View.set_reshape _ _]
        refine (owns_intro (n : Thread nD τ) m₂ fullShare _).trans ?_
        rw [show m₂.view.read (Elt F) ((m₂.squeeze s' h).view.write (Elt F) fd ((m₁.squeeze s' h).view.read (Elt F) fs) Finset.univ) = m₁.view.read (Elt F) fs
          from read_squeeze m₁.view m₂.view h.numel_eq fd fs]
        exact hpay₂)) $$ [Hs Hd HO Ht₁ Ht₂]
  · isplitr; · iexact HI₁
    isplitr; · iexact HI₂
    isplitl [Hs]; · rw [show (m₁.squeeze s' h).view.set = m₁.view.set from View.set_reshape _ _]; iexact Hs
    isplitl [Hd]; · rw [show (m₂.squeeze s' h).view.set = m₂.view.set from View.set_reshape _ _]; iexact Hd
    isplitl [HO]; · iexact HO
    isplitl [Ht₁]; · iexact Ht₁
    isplitr; · iexact Hr₁
    isplitl [Ht₂]; · iexact Ht₂
    iexact Hr₂
  iexact Hk

/-! ## A buffer cut into its slots -/

section Cut

variable (c : Dev nD) (b : Ref sig .tc) {T : Type} [Fintype T] [DecidableEq T] (r : T → Rect b.ty.shape) (hr : ∀ t a, (r t).stride a = 1)
  (hd : ∀ t t', t ≠ t' → Disjoint (r t).set (r t').set)
  (hcov : (Finset.univ : Finset T).biUnion (fun t => (r t).set) = Finset.univ)
include hd hcov

/-- A whole buffer gives its slots, each at some contents. -/
theorem cut (f : Buf (Elt F) ((c : Thread nD τ).loc b)) :
    (((c : Thread nD τ).loc b) ↦{fullShare} f : sProp 𝕄)
      ⊢ bigSep Finset.univ fun t => iprop(∃ X, at_ c (Memref.whole b) (r t) (hr t) X) := by
  rw [← owns_whole (c : Thread nD τ) b fullShare f]
  refine (owns_rects (c : Thread nD τ) (Memref.whole b) fullShare r hr hd hcov f).trans (bigSep_mono fun t _ => ?_)
  refine (show (owns (c : Thread nD τ) ((Memref.whole b).slice (r t) (hr t)) fullShare (fun j => f ((r t).emb j)) : sProp 𝕄)
    ⊢ iprop(∃ X, at_ c (Memref.whole b) (r t) (hr t) X) from ?_)
  iintro H; iexists _; iexact H

/-- Its slots, each at some contents, give the whole buffer at some contents. -/
theorem join : (bigSep Finset.univ fun t => iprop(∃ X, at_ (F := F) c (Memref.whole b) (r t) (hr t) X))
      ⊢ (iprop(∃ f, ((c : Thread nD τ).loc b) ↦{fullShare} f) : sProp 𝕄) := by
  classical
  have hne : ∀ e, Nonempty (Elt F e) := fun e => inferInstance
  refine (BI.bigSep_exists_pi Finset.univ fun t (X : (r t).shape.Idx → Elt F b.ty.elt) => at_ (F := F) c (Memref.whole b) (r t) (hr t) X).trans ?_
  iintro ⟨%X, H⟩
  have hmem : ∀ x : b.ty.shape.Idx, ∃ t, ∃ j, (r t).emb j = x := fun x => by
    obtain ⟨t, -, hx⟩ := Finset.mem_biUnion.mp (hcov.symm ▸ Finset.mem_univ x)
    rw [← Rect.map_emb_univ, Finset.mem_map] at hx
    obtain ⟨j, -, hj⟩ := hx
    exact ⟨t, j, hj⟩
  let Z : b.ty.shape.Idx → Elt F b.ty.elt := fun x => X (hmem x).choose (hmem x).choose_spec.choose
  have hZ : ∀ t, X t = fun j => Z ((r t).emb j) := fun t => funext fun j => by
    have hs := (hmem ((r t).emb j)).choose_spec.choose_spec
    have ht : (hmem ((r t).emb j)).choose = t := by
      by_contra hne
      refine (Finset.disjoint_left.mp (hd _ _ hne) : ∀ ⦃a⦄, a ∈ _ → a ∉ _) (a := (r t).emb j) ?_ ?_
      · rw [← Rect.map_emb_univ]; exact Finset.mem_map.mpr ⟨_, Finset.mem_univ _, hs⟩
      · rw [← Rect.map_emb_univ]; exact Finset.mem_map.mpr ⟨j, Finset.mem_univ _, rfl⟩
    have key : ∀ (t' : T) (j' : (r t').shape.Idx), t' = t → (r t').emb j' = (r t).emb j → X t j = X t' j' := by
      rintro t' j' rfl h
      rw [(r t').emb.injective h]
    exact key _ _ ht hs
  iexists Z
  rw [← owns_whole (c : Thread nD τ) b fullShare Z]
  iapply (owns_of_rects (c : Thread nD τ) (Memref.whole b) fullShare r hr hd hcov Z)
  rw [show (fun t => at_ (F := F) c (Memref.whole b) (r t) (hr t) (X t)) = fun t => owns (c : Thread nD τ) ((Memref.whole b).slice (r t) (hr t)) fullShare (fun j => Z ((r t).emb j)) from
    funext fun t => by rw [hZ t]]
  iexact H

end Cut

end Cert.Scatter

end
-- ==== Proof.Sched.lean ====
/-
The protocol: the semaphores of a device, what each buffer holds when it is handed over, who hands it to whom.

Every semaphore serves one round. The barrier's has five parties: the three peers of the plane hand over the slots they
receive in, the device's successor in the ring its ring slots, its predecessor nothing. A copy's sending semaphore gives
the slot sent from back; its receiving semaphore gives the slot received in, holding what was sent.
-/
module

public import proofs.«01_k».proof.Proof.Slots

@[expose] public section

noncomputable section

namespace Cert.Scatter

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## The semaphores -/

/-- Distance round the plane and step; ring step and column half. -/
abbrev IA : Type := Fin 3 × Fin 4
abbrev IB : Type := Fin 3 × Fin 2
/-- The kernel's own semaphores: the plane's copies sent and received, the ring's sent and received. -/
abbrev Own : Type := (IA ⊕ IA) ⊕ (IB ⊕ IB)
/-- All of them: the barrier's too. -/
abbrev Cell : Type := Unit ⊕ Own
instance : DecidableEq (Dev nD × Cell) := instDecidableEqProd
abbrev cBar : Cell := .inl ()
abbrev cSA (x : IA) : Cell := .inr (.inl (.inl x))
abbrev cRA (x : IA) : Cell := .inr (.inl (.inr x))
abbrev cSB (x : IB) : Cell := .inr (.inr (.inl x))
abbrev cRB (x : IB) : Cell := .inr (.inr (.inr x))

abbrev osem : Own → SemLoc sig
  | .inl (.inl x) => .dma (semA cc0_scratch5 (ix x.1 x.2))
  | .inl (.inr x) => .dma (semA cc0_scratch6 (ix x.1 x.2))
  | .inr (.inl x) => .dma (semB cc0_scratch7 (ixB x.1 x.2))
  | .inr (.inr x) => .dma (semB cc0_scratch8 (ixB x.1 x.2))
abbrev csem : Cell → SemLoc sig
  | .inl _ => .reg barSem
  | .inr x => osem x
/-- A semaphore of a device. -/
abbrev kcell (ci : Dev nD × Cell) : GSem nD τ sig := ((ci.1 : Thread nD τ), csem ci.2)

theorem osem_injective : Function.Injective osem := by decide +kernel
theorem csem_injective : Function.Injective csem := by
  rintro (a | a) (b | b) h
  · rfl
  · rcases b with (b | b) | (b | b) <;> cases h
  · rcases a with (a | a) | (a | a) <;> cases h
  · exact congrArg _ (osem_injective h)

/-- Which of them a semaphore is. -/
def which (sm : SemLoc sig) : Option Cell := Function.partialInv csem sm
theorem which_csem (i : Cell) : which (csem i) = some i := Function.partialInv_left csem_injective i

theorem kcell_injective : Function.Injective kcell := by
  rintro ⟨c, i⟩ ⟨c', i'⟩ h
  have h1 : c = c' := congrArg (fun g : GSem nD τ sig => g.1.1) h
  have h2 : i = i' := csem_injective (congrArg Prod.snd h)
  rw [h1, h2]

/-- What a copy of a slot adds to its semaphores. -/
abbrev NA : ℕ := (slotA mLdA 0).view.dmaCredit
abbrev NB : ℕ := (slotB mLdB 0).view.dmaCredit
theorem NA_pos : 0 < NA := View.dmaCredit_pos _ (by decide)
theorem NB_pos : 0 < NB := View.dmaCredit_pos _ (by decide)

/-- One payment to a semaphore. -/
def amt : Cell → ℕ
  | .inl _ => 1
  | .inr (.inl _) => NA
  | .inr (.inr _) => NB
theorem amt_pos (i : Cell) : 0 < amt i := by
  rcases i with _ | (_ | _)
  · exact Nat.one_pos
  · exact NA_pos
  · exact NB_pos
/-- The payments to a semaphore. -/
def dut : Cell → Finset (Fin 5)
  | .inl _ => Finset.univ
  | .inr _ => {0}

/-! ## What the buffers hold -/

/-- The staged blocks. -/
def xB (c : Dev nD) : Vec F S4096x256 .fp8e4m3 := (win0_0.blk (0 : Fin 1)).view.read (Elt F) (m ((c : Thread nD τ).loc main_arg0))
def wB (c : Dev nD) : Vec F S256x2048 .fp8e4m3 := (win0_1.blk (0 : Fin 1)).view.read (Elt F) (m ((c : Thread nD τ).loc main_arg1))
def sxB (c : Dev nD) : Vec F S1 .f32 := (win0_2.blk (0 : Fin 1)).view.read (Elt F) (m ((c : Thread nD τ).loc main_arg2))
def swB (c : Dev nD) : Vec F S1 .f32 := (win0_3.blk (0 : Fin 1)).view.read (Elt F) (m ((c : Thread nD τ).loc main_arg3))

/-- The device's product of row chunk `i`, and the same rounded to eight bits. -/
def part (c : Dev nD) (i : Fin 16) : Vec F S256x2048 .f32 := k0_pay16 (k0_pay1 (wB m c)) (fun j => xB m c ((rX i).emb j))
def wire (c : Dev nD) (i : Fin 16) : Vec F S1x256x2048 .i8 := k0_pay17 (k0_pay1 (wB m c)) (fun j => xB m c ((rX i).emb j))
/-- What the device receives at step `k` in the slot of distance `p + 1`. -/
def got (c : Dev nD) (p : Fin 3) (k : Fin 4) : Vec F S1x256x2048 .i8 := wire m (pl c p) (chunk c k 0)

theorem inbL (h : Fin 2) : ∀ a, (![0, 0, 1024 * h.val] : Fin 3 → ℕ) a + S1x256x1024.size a ≤ S1x256x2048.size a := by revert h; decide
/-- The left or right half of a slot's columns. -/
abbrev rL (h : Fin 2) : Rect S1x256x2048 := Rect.unit ![0, 0, 1024 * h.val] S1x256x1024.size (inbL h)
/-- The left or right half of a chunk's columns, of a slot's. -/
def hC (X : Vec F S256x2048 .f32) (h : Fin 2) : Vec F S256x1024 .f32 := fun j => X ((rO h).emb j)
def hL (X : Vec F S1x256x2048 .i8) (h : Fin 2) : Vec F S1x256x1024 .i8 := fun j => X ((rL h).emb j)

/-- The chunk kept at step `s + 1`, the three received ones added. -/
def kept (c : Dev nD) (s : Fin 3) : Vec F S256x2048 .f32 :=
  k0_pay47 (part m c (chunk c s.succ 0)) (got m c 0 s.succ) (got m c 1 s.succ) (got m c 2 s.succ)

/-- What the device sends round the ring at each step. -/
def ring0 (c : Dev nD) (h : Fin 2) : FVec F S1x256x1024 .bf16 :=
  k0_pay45 (hC (part m c (chunk c 0 0)) h) (hL (got m c 0 0) h) (hL (got m c 1 0) h) (hL (got m c 2 0) h)
def ring1 (c : Dev nD) (h : Fin 2) : FVec F S1x256x1024 .bf16 := k0_pay48 (hC (kept m c 0) h) (ring0 m (zl c) h)
def ring2 (c : Dev nD) (h : Fin 2) : FVec F S1x256x1024 .bf16 := k0_pay48 (hC (kept m c 1) h) (ring1 m (zl c) h)
def ringAt (c : Dev nD) (s : Fin 3) (h : Fin 2) : FVec F S1x256x1024 .bf16 :=
  match s with
  | 0 => ring0 m c h
  | 1 => ring1 m c h
  | 2 => ring2 m c h
theorem ringAt_succ (c : Dev nD) (s : Fin 2) (h : Fin 2) :
    ringAt m c s.succ h = k0_pay48 (hC (kept m c s.castSucc) h) (ringAt m (zl c) s.castSucc h) := by
  fin_cases s <;> rfl

/-- The one index of a scale. -/
def i0 : S1.Idx := Shape.Idx.first (by decide)
theorem eq_i0 (x : S1.Idx) : x = i0 :=
  (Fintype.card_le_one_iff_subsingleton.mp (by rw [Shape.card_idx]; decide)).elim x i0

/-- A half of the result. -/
def outH (c : Dev nD) (h : Fin 2) : Vec F S256x1024 .f32 :=
  k0_pay56 (k0_pay55 (sxB m c i0) (swB m c i0)) (hC (kept m c 2) h) (ringAt m (zl c) 2 h)

/-! ## What is handed over -/

abbrev unitA (j : Fin 12) : ∀ a, (rA j).stride a = 1 := fun _ => rfl
abbrev unitB (j : Fin 6) : ∀ a, (rB j).stride a = 1 := fun _ => rfl

/-- A slot of the device at some contents. -/
def freeA (c : Dev nD) (b : Memref sig .tc .vmem S12x256x2048 .i8) (j : Fin 12) : sProp 𝕄 := iprop(∃ X, at_ c b (rA j) (unitA j) X)
def freeB (c : Dev nD) (b : Memref sig .tc .vmem S6x256x1024 .bf16) (j : Fin 6) : sProp 𝕄 := iprop(∃ X, at_ c b (rB j) (unitB j) X)

instance freeA_storable (c : Dev nD) (b) (j) : BI.Storable (upEmb : UEmb _ 𝕄) (freeA (F := F) c b j) := by unfold freeA; infer_instance
instance freeB_storable (c : Dev nD) (b) (j) : BI.Storable (upEmb : UEmb _ 𝕄) (freeB (F := F) c b j) := by unfold freeB; infer_instance

/-- What device `c`'s semaphore `i` gives for payment `d`. -/
def pay (c : Dev nD) (i : Cell) (d : Fin 5) : sProp 𝕄 :=
  match i with
  | .inl _ => match d with
    | 0 => bigSep Finset.univ fun k : Fin 4 => freeA (pl c 2) mLdA (ix 0 k)
    | 1 => bigSep Finset.univ fun k : Fin 4 => freeA (pl c 1) mLdA (ix 1 k)
    | 2 => bigSep Finset.univ fun k : Fin 4 => freeA (pl c 0) mLdA (ix 2 k)
    | 3 => bigSep Finset.univ fun x : IB => freeB (zr c) mLdB (ixB x.1 x.2)
    | 4 => iprop(emp)
  | .inr (.inl (.inl x)) => freeA c mStA (ix x.1 x.2)
  | .inr (.inl (.inr x)) => at_ c mLdA (rA (ix x.1 x.2)) (unitA _) (got m c x.1 x.2)
  | .inr (.inr (.inl x)) => freeB c mStB (ixB x.1 x.2)
  | .inr (.inr (.inr x)) => at_ c mLdB (rB (ixB x.1 x.2)) (unitB _) (ringAt m (zl c) x.1 x.2)

instance pay_storable (c : Dev nD) (i : Cell) (d : Fin 5) : BI.Storable (upEmb : UEmb _ 𝕄) (pay m c i d) := by
  unfold pay
  rcases i with _ | ((_ | _) | (_ | _))
  · dsimp only; split <;> infer_instance
  all_goals (dsimp only; infer_instance)

/-- The schedule. -/
def Rd : Schedule (GSem nD τ sig) (Fin 5) 𝕄 where
  duties g r := if r = 0 ∧ g.1.2 = .tc then ((which g.2).map dut).getD ∅ else ∅
  unitless _ := False
  amount g _ _ := ((which g.2).map amt).getD 1
  payload g _ d := match which g.2 with
    | some i => pay m g.1.1 i d
    | none => iprop(emp)
  amount_pos g _ _ _ := by
    cases which g.2 with
    | none => exact Nat.one_pos
    | some i => exact amt_pos i

instance Rd_storable (g : GSem nD τ sig) (r : ℕ) (d : Fin 5) : BI.Storable (upEmb : UEmb _ 𝕄) ((Rd (F := F) m).payload g r d) := by
  show BI.Storable upEmb (match which g.2 with
    | some i => pay m g.1.1 i d
    | none => iprop(emp))
  split <;> infer_instance

section Tables

variable (c : Dev nD) (i : Cell)

theorem duties_eq : (Rd (F := F) m).duties ((c : Thread nD τ), csem i) 0 = dut i := by
  dsimp only [Rd]; rw [if_pos ⟨rfl, rfl⟩, which_csem]; rfl
theorem duties_later (g : GSem nD τ sig) : ∀ r, 1 ≤ r → (Rd (F := F) m).duties g r = ∅ :=
  fun r hr => by dsimp only [Rd]; rw [if_neg fun h => by omega]
theorem amount_eq (r : ℕ) (d : Fin 5) : (Rd (F := F) m).amount ((c : Thread nD τ), csem i) r d = amt i := by
  dsimp only [Rd]; rw [which_csem]; rfl
theorem payload_eq (r : ℕ) (d : Fin 5) : (Rd (F := F) m).payload ((c : Thread nD τ), csem i) r d = pay m c i d := by
  dsimp only [Rd]; rw [which_csem]
theorem expect_eq : (Rd (F := F) m).expect ((c : Thread nD τ), csem i) 0 = (dut i).card * amt i := by
  unfold Schedule.expect Schedule.amountOf
  rw [duties_eq, Finset.sum_congr rfl fun d _ => amount_eq m c i 0 d, Finset.sum_const, smul_eq_mul]
theorem rest_eq : bigSep ((Rd (F := F) m).duties ((c : Thread nD τ), csem i) 0 \ ∅) (fun d => (Rd (F := F) m).payload ((c : Thread nD τ), csem i) 0 d)
    = bigSep (dut i) (pay m c i) := by
  rw [Finset.sdiff_empty, duties_eq]
  exact bigSep_congr fun d _ => payload_eq m c i 0 d

end Tables

/-! ## What is owed, in program order -/

/-- The payments a device makes to others: the barrier's, the plane's copies', the ring's. -/
abbrev Due : Type := Fin 5 ⊕ (IA ⊕ IB)
def target (c : Dev nD) : Due → Dev nD
  | .inl j => bar j c
  | .inr (.inl x) => pl c x.1
  | .inr (.inr _) => zr c
def dueCell : Due → Cell
  | .inl _ => cBar
  | .inr (.inl x) => cRA (rev x.1, x.2)
  | .inr (.inr x) => cRB x
abbrev dueAt (c : Dev nD) (e : Due) : GSem nD τ sig := ((target c e : Thread nD τ), csem (dueCell e))

/-- What a device owes that still has the payments `es` to make. -/
def rem (c : Dev nD) : List Due → CellTallies nD τ sig Unit
  | [] => 0
  | e :: es => rem c es + tallyAt (dueAt c e) () (amt (dueCell e))

abbrev duesS : List Due := [.inl 0, .inl 1, .inl 2, .inl 3, .inl 4]
abbrev duesA (k : Fin 4) : List Due := [.inr (.inl (0, k)), .inr (.inl (1, k)), .inr (.inl (2, k))]
abbrev duesB (s : Fin 3) : List Due := [.inr (.inr (s, 0)), .inr (.inr (s, 1))]
/-- All of them in program order. -/
abbrev dues : List Due := duesS ++ (duesA 0 ++ (duesA 1 ++ (duesA 2 ++ (duesA 3 ++ (duesB 0 ++ (duesB 1 ++ duesB 2))))))

/-- Which semaphores may be waited for while others are owed: sending ones first, then the barrier's, then the plane's, then the
    ring's step by step. -/
def lvC : Cell → ℕ
  | .inl _ => 1
  | .inr (.inl (.inl _)) => 0
  | .inr (.inl (.inr _)) => 2
  | .inr (.inr (.inl _)) => 0
  | .inr (.inr (.inr x)) => 3 + x.1.val
def L (g : GSem nD τ sig) : Finset Unit := if g.1.2 = .tc then {()} else ∅
def lv (g : GSem nD τ sig) (_ : Unit) : ℕ := ((which g.2).map lvC).getD 0

theorem L_of_ne (g : GSem nD τ sig) (h : g.1.2 ≠ .tc) : L g = ∅ := if_neg h
theorem L_tc (c : Dev nD) (sm : SemLoc sig) : L ((c : Thread nD τ), sm) = {()} := if_pos rfl
theorem lv_csem (c : Dev nD) (i : Cell) (u : Unit) : lv ((c : Thread nD τ), csem i) u = lvC i := by
  unfold lv; rw [which_csem]; rfl

theorem rem_pos {c : Dev nD} {g : GSem nD τ sig} {u : Unit} {es : List Due} (h : 0 < rem c es g u) : ∃ e ∈ es, g = dueAt c e := by
  induction es with
  | nil => exact absurd h (Nat.lt_irrefl 0)
  | cons e es ih =>
    unfold rem at h
    rw [Pi.add_apply, Finsupp.add_apply, tallyAt_apply] at h
    by_cases hg : g = dueAt c e
    · exact ⟨e, List.mem_cons_self, hg⟩
    · rw [if_neg (fun h' => hg h'.1), Nat.add_zero] at h
      obtain ⟨e', he', h'⟩ := ih h
      exact ⟨e', List.mem_cons_of_mem _ he', h'⟩

/-- A semaphore may be waited for while what is owed lies above it. -/
theorem mayWait (c : Dev nD) (sm : SemLoc sig) (n : ℕ) (hn : lv ((c : Thread nD τ), sm) () ≤ n) (es : List Due)
    (hes : ∀ e ∈ es, n < lvC (dueCell e)) : (levAts L lv : sProp 𝕄) ⊢ MayWait (c : Thread nD τ) sm () (rem c es) :=
  MayOwe.of_cut (L := L) (lev := lv) n (fun p hp => by rw [Finset.mem_singleton.mp hp, L_tc]; exact Finset.mem_singleton_self _)
    (fun g u hg => by obtain ⟨e, -, rfl⟩ := rem_pos hg; rw [L_tc]; exact Finset.mem_singleton_self _)
    (fun p hp => by rw [Finset.mem_singleton.mp hp]; exact hn)
    (fun g u hg => by obtain ⟨e, he, rfl⟩ := rem_pos hg; rw [lv_csem]; exact hes e he)

end Cert.Scatter

end
-- ==== Proof.Steps.lean ====
/-
One rule per step of the program: what the step needs, and what it leaves.
-/
module

public import proofs.«01_k».proof.Proof.Sched

@[expose] public section

set_option maxRecDepth 20000

noncomputable section

namespace Cert.Scatter

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × Cell → ℕ)

/-! ## What everybody knows, and what a device owes -/

/-- Every semaphore's invariant, that its round has begun, and the levels. -/
def env : sProp 𝕄 :=
  iprop((bigSep Finset.univ fun ci : Dev nD × Cell => cellInv ER (Rd m) (K ci) (kcell ci))
    ∗ (bigSep Finset.univ fun ci : Dev nD × Cell => reached ER (kcell ci) 0) ∗ levAts L lv)

instance env_persistent : BI.Persistent (env m K) := by unfold env; infer_instance

theorem inv_at (ci : Dev nD × Cell) :
    (bigSep Finset.univ fun ci : Dev nD × Cell => (cellInv ER (Rd m) (K ci) (kcell ci) : sProp 𝕄)) ⊢ cellInv ER (Rd m) (K ci) (kcell ci) :=
  bigSep_elim (Finset.mem_univ ci)
theorem reached_at (ci : Dev nD × Cell) :
    (bigSep Finset.univ fun ci : Dev nD × Cell => (reached ER (kcell ci) 0 : sProp 𝕄)) ⊢ reached ER (kcell ci) 0 :=
  bigSep_elim (Finset.mem_univ ci)

theorem env_inv (c : Dev nD) (i : Cell) : env m K ⊢ cellInv ER (Rd m) (K (c, i)) ((c : Thread nD τ), csem i) := by
  unfold env
  iintro ⟨H, -, -⟩
  iapply (inv_at m K (c, i)); iexact H
theorem env_reached (c : Dev nD) (i : Cell) : env m K ⊢ reached ER ((c : Thread nD τ), csem i) 0 := by
  unfold env
  iintro ⟨-, H, -⟩
  iapply (reached_at (F := F) (c, i)); iexact H
theorem env_levels : env m K ⊢ (levAts L lv : sProp 𝕄) := by
  unfold env
  iintro ⟨-, -, H⟩; iexact H

def owing (c : Dev nD) (es : List Due) : sProp 𝕄 := iprop(∃ W, owes (c : Thread nD τ) (rem c es) W)

/-- What a device holds to wait for one of its semaphores. -/
def due (c : Dev nD) (i : Cell) : sProp 𝕄 := iprop(atPos ER (kcell (c, i)) 0 ∅ 0 ∗ cred (tallyAt (kcell (c, i)) () ((dut i).card * amt i)))
/-- A semaphore done with. -/
def done (c : Dev nD) (i : Cell) : sProp 𝕄 := semVal (kcell (c, i)) 0
/-- The right to make payment `d` to a semaphore. -/
def tok (c : Dev nD) (i : Cell) (d : Fin 5) : sProp 𝕄 := dutyTok ER (kcell (c, i)) 0 d

/-! ## The waits -/

theorem wp_waitDma {c : Dev nD} {i : Cell} {sm : DmaSem sig} (hi : csem i = .dma sm) {sp sp' : Space} {s s' : Shape} {e e' : EltTy}
    {src : Memref sig .tc sp s e} {dst : Memref sig .tc sp' s' e'} {hs : src.view.WordExact} {hd : dst.view.WordExact}
    (hN : dst.view.dmaCredit = (dut i).card * amt i) {es : List Due} (hes : ∀ e ∈ es, lvC i < lvC (dueCell e)) {Q : PUnit → sProp 𝕄} :
    iprop(env m K ∗ owing c es ∗ due c i)
      ⊢ iprop(((owing c es ∗ done c i ∗ bigSep (dut i) (pay m c i)) -∗ Q ⟨⟩) -∗ wpB c (Prog.lift (.waitDma2 sm src dst hs hd)) Q) := by
  unfold owing due done
  have hlv : lv ((c : Thread nD τ), .dma sm) () = lvC i := by rw [← hi]; exact lv_csem c i ()
  have hmay := (env_levels m K).trans (mayWait (F := F) c (.dma sm) (lvC i) (le_of_eq hlv) es hes)
  iintro ⟨#He, ⟨%W, HO⟩, Hat, Hc⟩ Hk
  unfold Prog.lift kcell
  simp only [hi]
  iapply (Rounds.wp_wait_rest_token 𝒱₀ ER (Rd m) (c : Thread nD τ) none (κ := K (c, i))
      (wpE_waitDma2_eq 𝒱₀ (c : Thread nD τ) none Set.univ) (Set.mem_univ _) () (O := rem c es) (W := W) (R := 0) (m := 0) (T := ∅)
      (by rw [Nat.zero_add, ← hi, expect_eq]; exact hN)) $$ [Hc HO Hat]
  · isplitr; · rw [← hi]; iapply (env_inv m K c i); iexact He
    isplitl [Hc]; · rw [show (dst.view.dmaCredit) = (dut i).card * amt i from hN]; iexact Hc
    isplitl [HO]; · iexact HO
    isplitr
    · iapply hmay; iexact He
    iexact Hat
  iintro ⟨HO, Hat, -, Hpay⟩
  imod (Rounds.cell_close ER (Rd m) (Set.mem_univ (K (c, i))) (fun h => h) (R := 0 + 1) (duties_later m ((c : Thread nD τ), .dma sm))) $$ [Hat] with Hz
  · isplitr; · rw [← hi]; iapply (env_inv m K c i); iexact He
    iexact Hat
  rw [wp_ret]; imodintro
  iapply Hk
  isplitl [HO]; · iexists _; iexact HO
  isplitl [Hz]; · iexact Hz
  ihave Hp := (Entails.of_eq (show _ = bigSep (dut i) (pay m c i) by rw [← hi]; exact rest_eq m c i)) $$ Hpay
  iexact Hp

/-! ## Separating products over three, four and five -/

theorem bigSep3 (Φ : Fin 3 → sProp 𝕄) : bigSep Finset.univ Φ = iprop(Φ 0 ∗ Φ 1 ∗ Φ 2) := by
  rw [show (Finset.univ : Finset (Fin 3)) = {0, 1, 2} by decide, bigSep_insert (by decide), bigSep_insert (by decide), bigSep_singleton]; rfl
theorem bigSep4 (Φ : Fin 4 → sProp 𝕄) : bigSep Finset.univ Φ = iprop(Φ 0 ∗ Φ 1 ∗ Φ 2 ∗ Φ 3) := by
  rw [show (Finset.univ : Finset (Fin 4)) = {0, 1, 2, 3} by decide, bigSep_insert (by decide), bigSep_insert (by decide),
    bigSep_insert (by decide), bigSep_singleton]; rfl
theorem bigSep5 (Φ : Fin 5 → sProp 𝕄) : bigSep Finset.univ Φ = iprop(Φ 0 ∗ Φ 1 ∗ Φ 2 ∗ Φ 3 ∗ Φ 4) := by
  rw [show (Finset.univ : Finset (Fin 5)) = {0, 1, 2, 3, 4} by decide, bigSep_insert (by decide), bigSep_insert (by decide),
    bigSep_insert (by decide), bigSep_insert (by decide), bigSep_singleton]; rfl

/-! ## Running one stretch after another -/

theorem wpB_bind {c : Dev nD} {α β : Type} {p : Pr F α} {k : α → Pr F β} {Q : β → sProp 𝕄} :
    wpB c p (fun a => wpB c (k a) Q) ⊢ wpB c (p >>= k) Q := Entails.of_eq (wp_bind ..).symm
theorem wpB_ret {c : Dev nD} {α : Type} {a : α} {Q : α → sProp 𝕄} : Q a ⊢ wpB c (.ret a) Q := by
  show Q a ⊢ wp frame (wpE (defs₀ (F := F)) 𝒱₀ (c : Thread nD τ) none) Set.univ (.ret a) Q
  rw [wp_ret]
  iintro H; imodintro; iexact H
/-- A step's rule used at the head of a program. -/
theorem wpB_step {c : Dev nD} {α β : Type} {p : Pr F α} {k : α → Pr F β} {Q : β → sProp 𝕄} {P R : sProp 𝕄} {a : α}
    (h : ∀ {Q : α → sProp 𝕄}, P ⊢ iprop((R -∗ Q a) -∗ wpB c p Q)) : P ⊢ iprop((R -∗ wpB c (k a) Q) -∗ wpB c (p >>= k) Q) := by
  refine (h (Q := fun a => wpB c (k a) Q)).trans ?_
  iintro H Hk
  iapply wpB_bind
  iapply H
  iexact Hk

/-! ## The entry barrier -/

theorem wp_signalStep {c : Dev nD} {j : Fin 5} {es : List Due} {Q : PUnit → sProp 𝕄} :
    iprop(env m K ∗ owing c (.inl j :: es) ∗ tok (bar j c) cBar j ∗ pay m (bar j c) cBar j)
      ⊢ iprop((owing c es -∗ Q ⟨⟩) -∗ wpB c (signalStep c j) Q) := by
  unfold owing tok
  iintro ⟨#He, ⟨%W, HO⟩, Ht, Hp⟩ Hk
  unfold signalStep semSignalWord
  rw [devS_eq]
  iapply (Rounds.wp_signal 𝒱₀ ER (Rd m) (c : Thread nD τ) none (dst := (bar j c : Thread nD τ)) (κ := K (bar j c, cBar)) (r := 0)
      (d := j) (by rw [show (SemLoc.reg barSem : SemLoc sig) = csem cBar from rfl, duties_eq]; exact Finset.mem_univ _)
      ((amount_eq m (bar j c) cBar 0 j).trans (show amt cBar = amt (dueCell (.inl j)) from rfl)) () (O₀ := rem c (.inl j :: es)) (rem c es) rfl) $$ [HO Ht Hp]
  · isplitr; · iapply (env_inv m K (bar j c) cBar); iexact He
    isplitl [HO]; · iexact HO
    isplitl [Ht]; · iexact Ht
    isplitl [Hp]
    · rw [show (Rd m).payload ((bar j c : Thread nD τ), .reg barSem) 0 j = pay m (bar j c) cBar j from payload_eq m (bar j c) cBar 0 j]
      iexact Hp
    iapply (env_reached m K (bar j c) cBar); iexact He
  iintro HO
  iapply wpB_ret
  iapply Hk
  iexists W; iexact HO

theorem wp_barWait {c : Dev nD} {es : List Due} (hes : ∀ e ∈ es, 1 < lvC (dueCell e)) {Q : PUnit → sProp 𝕄} :
    iprop(env m K ∗ owing c es ∗ due c cBar)
      ⊢ iprop(((owing c es ∗ done c cBar ∗ bigSep Finset.univ (pay m c cBar)) -∗ Q ⟨⟩) -∗ wpB c (semWaitWord barSem 5#32) Q) := by
  unfold owing due done
  have hlv : lv ((c : Thread nD τ), .reg barSem) () = 1 := lv_csem c cBar ()
  have hmay := (env_levels m K).trans (mayWait (F := F) c (.reg barSem) 1 (le_of_eq hlv) es hes)
  iintro ⟨#He, ⟨%W, HO⟩, Hat, Hc⟩ Hk
  unfold semWaitWord
  iapply (Rounds.wp_wait_rest_token 𝒱₀ ER (Rd m) (c : Thread nD τ) none (κ := K (c, cBar))
      (wpE_semWait_eq 𝒱₀ (c : Thread nD τ) none Set.univ) (Set.mem_univ _) () (O := rem c es) (W := W) (R := 0) (m := 0) (T := ∅)
      (by rw [Nat.zero_add]; exact (show (5 : ℕ) = (dut cBar).card * amt cBar by decide).trans (expect_eq m c cBar).symm)) $$ [Hc HO Hat]
  · isplitr; · iapply (env_inv m K c cBar); iexact He
    isplitl [Hc]; · iexact Hc
    isplitl [HO]; · iexact HO
    isplitr; · iapply hmay; iexact He
    iexact Hat
  iintro ⟨HO, Hat, -, Hpay⟩
  imod (Rounds.cell_close ER (Rd m) (Set.mem_univ (K (c, cBar))) (fun h => h) (R := 0 + 1) (duties_later m ((c : Thread nD τ), .reg barSem))) $$ [Hat] with Hz
  · isplitr; · iapply (env_inv m K c cBar); iexact He
    iexact Hat
  iapply wpB_ret
  iapply Hk
  isplitl [HO]; · iexists _; iexact HO
  isplitl [Hz]; · iexact Hz
  ihave Hp := (Entails.of_eq (rest_eq m c cBar)) $$ Hpay
  iexact Hp

/-- The barrier: every signal with what it hands over, then what the five senders hand this device. -/
theorem wp_barrier {c : Dev nD} {es : List Due} (hes : ∀ e ∈ es, 1 < lvC (dueCell e)) {Q : PUnit → sProp 𝕄} :
    iprop(env m K ∗ owing c (duesS ++ es) ∗ (bigSep Finset.univ fun j : Fin 5 => iprop(tok (bar j c) cBar j ∗ pay m (bar j c) cBar j)) ∗ due c cBar)
      ⊢ iprop(((owing c es ∗ done c cBar ∗ bigSep Finset.univ (pay m c cBar)) -∗ Q ⟨⟩) -∗ wpB c (barrier c) Q) := by
  unfold barrier
  rw [bigSep5]
  iintro ⟨#He, HO, ⟨H0, H1, H2, H3, H4⟩, Hd⟩ Hk
  iapply (wpB_step (wp_signalStep m K)) $$ [HO H0]
  · isplitr; · iexact He
    isplitl [HO]; · iexact HO
    iexact H0
  iintro HO
  iapply (wpB_step (wp_signalStep m K)) $$ [HO H1]
  · isplitr; · iexact He
    isplitl [HO]; · iexact HO
    iexact H1
  iintro HO
  iapply (wpB_step (wp_signalStep m K)) $$ [HO H2]
  · isplitr; · iexact He
    isplitl [HO]; · iexact HO
    iexact H2
  iintro HO
  iapply (wpB_step (wp_signalStep m K)) $$ [HO H3]
  · isplitr; · iexact He
    isplitl [HO]; · iexact HO
    iexact H3
  iintro HO
  iapply (wpB_step (wp_signalStep m K)) $$ [HO H4]
  · isplitr; · iexact He
    isplitl [HO]; · iexact HO
    iexact H4
  iintro HO
  iapply (wp_barWait m K hes) $$ [HO Hd]
  · isplitr; · iexact He
    isplitl [HO]; · iexact HO
    iexact Hd
  iexact Hk

/-! ## The products -/

/-- The staged block of `x`, and a chunk of its rows. -/
def xs (c : Dev nD) : sProp 𝕄 := iprop(((c : Thread nD τ).loc cc0_stg0_0) ↦{fullShare} (xB m c))
def xRows (c : Dev nD) (i : Fin 16) : Vec F S256x256 .fp8e4m3 := fun j => xB m c ((rX i).emb j)

abbrev unitC (i : Fin 16) : ∀ a, (rC i).stride a = 1 := fun _ => rfl
/-- A chunk of the accumulator at some contents. -/
def accFree (c : Dev nD) (i : Fin 16) : sProp 𝕄 := iprop(∃ X, at_ c mAcc (rC i) (unitC i) X)
/-- A chunk of the accumulator at `X`. -/
def accAt (c : Dev nD) (i : Fin 16) (X : Vec F S256x2048 .f32) : sProp 𝕄 := at_ c mAcc (rC i) (unitC i) X
theorem accAt_free (c : Dev nD) (i : Fin 16) (X : Vec F S256x2048 .f32) : accAt c i X ⊢ accFree c i := by
  unfold accAt accFree; iintro H; iexists X; iexact H

theorem wp_loadX {c : Dev nD} {i : Fin 16} {off' : Fin 2 → ℕ} {h' : ∀ a, off' a + S256x256.size a ≤ S4096x256.size a} (ho : off' = ![256 * i.val, 0])
    {hl : mX.view.LoadsAt (Rect.unit (s := S4096x256) off' S256x256.size h').toLoadRect} {α : Type} {Q : α → sProp 𝕄} {k : Vec F S256x256 .fp8e4m3 → Pr F α} :
    xs m c ⊢ iprop((xs m c -∗ wpB c (k (xRows m c i)) Q) -∗ wpB c (.op (.load mX (Rect.unit (s := S4096x256) off' S256x256.size h').toLoadRect hl) k) Q) := by
  subst ho
  unfold xs
  iintro H Hk
  iapply (wp_load_rect (defs := defs₀ (F := F)) 𝒱₀ (c : Thread nD τ) none Set.univ (m := mX) (r := rX i) (k := k) (Q := Q) (q := fullShare) (f := xB m c)
    (S := Finset.univ) (Finset.subset_univ _)) $$ H
  iintro H
  iapply Hk
  iexact H

theorem wp_partStep {c : Dev nD} {k q : Fin 4} {Q : Vec F S256x256 .fp8e4m3 → sProp 𝕄} :
    iprop(xs m c ∗ accFree c (chunk c k q))
      ⊢ iprop(((xs m c ∗ accAt c (chunk c k q) (part m c (chunk c k q))) -∗ Q (xRows m c (chunk c k q)))
          -∗ wpB c (partStep c (k0_pay1 (wB m c)) k q) Q) := by
  unfold accFree accAt
  iintro ⟨Hx, ⟨%X, Ha⟩⟩ Hk
  unfold partStep
  simp only [Prog.lift, Prog.bind_op, Prog.bind_ret, Prog.pure_eq_ret]
  iapply (wp_loadX m (off1_eq c k q)) $$ Hx
  iintro Hx
  iapply (wp_load_at (off2_eq c k q)) $$ Ha
  iintro Ha
  iapply (wp_store_at (off2_eq c k q)) $$ Ha
  iintro Ha
  iapply wpB_ret
  iapply Hk
  isplitl [Hx]; · iexact Hx
  iexact Ha

end Cert.Scatter

end
-- ==== Proof.Plane.lean ====
/-
The two phases' steps: the rounded partials sent round the plane, the sums passed round the ring, the result.
-/
module

public import proofs.«01_k».proof.Proof.Steps

@[expose] public section

set_option maxRecDepth 20000

noncomputable section

namespace Cert.Scatter

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × Cell → ℕ)

/-! ## The plane's copies -/

theorem chunk_send (c : Dev nD) (p : Fin 3) (k : Fin 4) : chunk (pl c p) k 0 = chunk c k p.succ := by revert c p k; decide
theorem got_sent (c : Dev nD) (p : Fin 3) (k : Fin 4) : got m (pl c p) (rev p) k = wire m c (chunk c k p.succ) := by
  unfold got; rw [pl_pl, chunk_send]

/-- What one copy of the plane needs: its slot, the slot it lands in, and the rights to pay both semaphores. -/
def todoA (c : Dev nD) (p : Fin 3) (k : Fin 4) : sProp 𝕄 :=
  iprop(freeA c mStA (ix p k) ∗ freeA (pl c p) mLdA (ix (rev p) k) ∗ tok c (cSA (p, k)) 0 ∗ tok (pl c p) (cRA (rev p, k)) 0
    ∗ atPos ER (kcell (c, cSA (p, k))) 0 ∅ 0)

theorem wp_sendA {c : Dev nD} {p : Fin 3} {k : Fin 4} {es : List Due} {Q : PUnit → sProp 𝕄} :
    iprop(env m K ∗ owing c (.inr (.inl (p, k)) :: es) ∗ at_ c mStA (rA (ix p k)) (unitA _) (wire m c (chunk c k p.succ))
        ∗ freeA (pl c p) mLdA (ix (rev p) k) ∗ tok c (cSA (p, k)) 0 ∗ tok (pl c p) (cRA (rev p, k)) 0 ∗ atPos ER (kcell (c, cSA (p, k))) 0 ∅ 0)
      ⊢ iprop(((owing c es ∗ due c (cSA (p, k))) -∗ Q ⟨⟩) -∗ wpB c (sendA c p k) Q) := by
  unfold owing tok freeA due
  iintro ⟨#He, ⟨%W, HO⟩, Hs, Hd, Ht₁, Ht₂, Hat⟩ Hk
  unfold sendA Prog.lift
  iapply (wp_send_squeezed (Rd m) (c := c) (c' := pl c p) (n := devA p k c) (devA_eq p k c) (m₁ := mStA.slice (rA (ix p k)) (fun _ => rfl))
    (m₂ := mLdA.slice (rA (ix (rev p) k)) (fun _ => rfl)) (sS := semA cc0_scratch5 (ix p k)) (sR := semA cc0_scratch6 (ix (rev p) k))
    (κ₁ := K (c, cSA (p, k))) (κ₂ := K (pl c p, cRA (rev p, k))) (d₁ := 0) (d₂ := 0) (W := W)
    (by rw [duties_eq m c (cSA (p, k))]; exact Finset.mem_singleton_self 0)
    (by rw [duties_eq m (pl c p) (cRA (rev p, k))]; exact Finset.mem_singleton_self 0)
    NA rfl (amount_eq m c (cSA (p, k)) 0 0) (amount_eq m (pl c p) (cRA (rev p, k)) 0 0) (O₀ := rem c (.inr (.inl (p, k)) :: es)) (rem c es) rfl
    (X := wire m c (chunk c k p.succ))
    (by
      rw [payload_eq m c (cSA (p, k)) 0 0]
      show _ ⊢ freeA c mStA (ix p k)
      unfold freeA; iintro H; iexists _; iexact H)
    (by
      rw [payload_eq m (pl c p) (cRA (rev p, k)) 0 0, ← got_sent]
      exact .rfl)) $$ [HO Hs Hd Ht₁ Ht₂]
  · isplitr; · iapply (env_inv m K c (cSA (p, k))); iexact He
    isplitr; · iapply (env_inv m K (pl c p) (cRA (rev p, k))); iexact He
    isplitl [Hs]; · iexact Hs
    isplitl [Hd]; · iexact Hd
    isplitl [HO]; · iexact HO
    isplitl [Ht₁]; · iexact Ht₁
    isplitr; · iapply (env_reached m K c (cSA (p, k))); iexact He
    isplitl [Ht₂]; · iexact Ht₂
    iapply (env_reached m K (pl c p) (cRA (rev p, k))); iexact He
  iintro ⟨Hc, HO⟩
  iapply wpB_ret
  iapply Hk
  isplitl [HO]; · iexists W; iexact HO
  isplitl [Hat]; · iexact Hat
  rw [show (dut (cSA (p, k))).card * amt (cSA (p, k)) = NA from Nat.one_mul _]
  iexact Hc

theorem wp_stepA {c : Dev nD} {p : Fin 3} {k : Fin 4} {es : List Due} {Q : PUnit → sProp 𝕄} :
    iprop(env m K ∗ owing c (.inr (.inl (p, k)) :: es) ∗ xs m c ∗ accFree c (chunk c k p.succ) ∗ todoA c p k)
      ⊢ iprop(((owing c es ∗ xs m c ∗ accFree c (chunk c k p.succ) ∗ due c (cSA (p, k))) -∗ Q ⟨⟩)
          -∗ wpB c (stepA c (k0_pay1 (wB m c)) k p) Q) := by
  unfold todoA
  rw [show freeA (F := F) c mStA (ix p k) = iprop(∃ X, at_ c mStA (rA (ix p k)) (unitA _) X) from rfl]
  iintro ⟨#He, HO, Hx, Ha, ⟨%X, Hs⟩, Hd, Ht₁, Ht₂, Hat⟩ Hk
  unfold stepA
  iapply (wpB_step (wp_partStep m (c := c) (k := k) (q := p.succ))) $$ [Hx Ha]
  · isplitl [Hx]; · iexact Hx
    iexact Ha
  iintro ⟨Hx, Ha⟩
  simp only [Prog.lift, Prog.bind_op, Prog.bind_ret, Prog.pure_eq_ret]
  iapply (wp_load_at rfl) $$ Hs
  iintro Hs
  iapply (wp_store_at rfl) $$ Hs
  iintro Hs
  iapply (wp_sendA m K) $$ [HO Hs Hd Ht₁ Ht₂ Hat]
  · isplitr; · iexact He
    isplitl [HO]; · iexact HO
    isplitl [Hs]; · iexact Hs
    isplitl [Hd]; · iexact Hd
    isplitl [Ht₁]; · iexact Ht₁
    isplitl [Ht₂]; · iexact Ht₂
    iexact Hat
  iintro ⟨HO, Hdue⟩
  iapply Hk
  isplitl [HO]; · iexact HO
  isplitl [Hx]; · iexact Hx
  isplitl [Ha]; · iapply (accAt_free c (chunk c k p.succ) _); iexact Ha
  iexact Hdue

/-- What a round needs, and what it leaves. -/
def roundPre (c : Dev nD) (k : Fin 4) : sProp 𝕄 :=
  iprop((bigSep Finset.univ fun p : Fin 3 => iprop(accFree c (chunk c k p.succ) ∗ todoA c p k)) ∗ accFree c (chunk c k 0))
def roundPost (c : Dev nD) (k : Fin 4) : sProp 𝕄 :=
  iprop((bigSep Finset.univ fun p : Fin 3 => iprop(accFree c (chunk c k p.succ) ∗ due c (cSA (p, k))))
    ∗ accAt c (chunk c k 0) (part m c (chunk c k 0)))

theorem wp_roundA {c : Dev nD} {k : Fin 4} {es : List Due} {Q : PUnit → sProp 𝕄} :
    iprop(env m K ∗ owing c (duesA k ++ es) ∗ xs m c ∗ roundPre c k)
      ⊢ iprop(((owing c es ∗ xs m c ∗ roundPost m c k) -∗ Q ⟨⟩) -∗ wpB c (roundA c (k0_pay1 (wB m c)) k) Q) := by
  unfold roundPre roundPost
  rw [bigSep3, bigSep3]
  iintro ⟨#He, HO, Hx, ⟨⟨A0, T0⟩, ⟨A1, T1⟩, ⟨A2, T2⟩⟩, A3⟩ Hk
  unfold roundA
  iapply (wpB_step (wp_stepA m K)) $$ [HO Hx A0 T0]
  · isplitr; · iexact He
    isplitl [HO]; · iexact HO
    isplitl [Hx]; · iexact Hx
    isplitl [A0]; · iexact A0
    iexact T0
  iintro ⟨HO, Hx, A0, T0⟩
  iapply (wpB_step (wp_stepA m K)) $$ [HO Hx A1 T1]
  · isplitr; · iexact He
    isplitl [HO]; · iexact HO
    isplitl [Hx]; · iexact Hx
    isplitl [A1]; · iexact A1
    iexact T1
  iintro ⟨HO, Hx, A1, T1⟩
  iapply (wpB_step (wp_stepA m K)) $$ [HO Hx A2 T2]
  · isplitr; · iexact He
    isplitl [HO]; · iexact HO
    isplitl [Hx]; · iexact Hx
    isplitl [A2]; · iexact A2
    iexact T2
  iintro ⟨HO, Hx, A2, T2⟩
  iapply (wpB_step (wp_partStep m (c := c) (k := k) (q := 0))) $$ [Hx A3]
  · isplitl [Hx]; · iexact Hx
    iexact A3
  iintro ⟨Hx, A3⟩
  simp only [Prog.pure_eq_ret]
  iapply wpB_ret
  iapply Hk
  isplitl [HO]; · iexact HO
  isplitl [Hx]; · iexact Hx
  isplitr [A3]
  · isplitl [A0 T0]; · isplitl [A0]; · iexact A0
                       iexact T0
    isplitl [A1 T1]; · isplitl [A1]; · iexact A1
                       iexact T1
    isplitl [A2]; · iexact A2
    iexact T2
  iexact A3

theorem wp_phaseA {c : Dev nD} {es : List Due} {Q : PUnit → sProp 𝕄} :
    iprop(env m K ∗ owing c (duesA 0 ++ (duesA 1 ++ (duesA 2 ++ (duesA 3 ++ es)))) ∗ xs m c ∗ bigSep Finset.univ (roundPre c))
      ⊢ iprop(((owing c es ∗ xs m c ∗ bigSep Finset.univ (roundPost m c)) -∗ Q ⟨⟩) -∗ wpB c (phaseA c (k0_pay1 (wB m c))) Q) := by
  rw [bigSep4, bigSep4]
  iintro ⟨#He, HO, Hx, R0, R1, R2, R3⟩ Hk
  unfold phaseA
  iapply (wpB_step (wp_roundA m K)) $$ [HO Hx R0]
  · isplitr; · iexact He
    isplitl [HO]; · iexact HO
    isplitl [Hx]; · iexact Hx
    iexact R0
  iintro ⟨HO, Hx, R0⟩
  iapply (wpB_step (wp_roundA m K)) $$ [HO Hx R1]
  · isplitr; · iexact He
    isplitl [HO]; · iexact HO
    isplitl [Hx]; · iexact Hx
    iexact R1
  iintro ⟨HO, Hx, R1⟩
  iapply (wpB_step (wp_roundA m K)) $$ [HO Hx R2]
  · isplitr; · iexact He
    isplitl [HO]; · iexact HO
    isplitl [Hx]; · iexact Hx
    iexact R2
  iintro ⟨HO, Hx, R2⟩
  iapply (wp_roundA m K) $$ [HO Hx R3]
  · isplitr; · iexact He
    isplitl [HO]; · iexact HO
    isplitl [Hx]; · iexact Hx
    iexact R3
  iintro ⟨HO, Hx, R3⟩
  iapply Hk
  isplitl [HO]; · iexact HO
  isplitl [Hx]; · iexact Hx
  isplitl [R0]; · iexact R0
  isplitl [R1]; · iexact R1
  isplitl [R2]; · iexact R2
  iexact R3

end Cert.Scatter

end
-- ==== Proof.Ring.lean ====
/-
The ring's steps: what arrived is waited for and added, the sum goes on, the last sum is scaled into the result.
-/
module

public import proofs.«01_k».proof.Proof.Plane

@[expose] public section

set_option maxRecDepth 20000

noncomputable section

namespace Cert.Scatter

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × Cell → ℕ)

/-! ## The waits -/

theorem bigSep_zero (Φ : Fin 5 → sProp 𝕄) : bigSep {0} Φ = Φ 0 := bigSep_singleton

/-- What landed from the plane, and from the ring. -/
def gotAt (c : Dev nD) (p : Fin 3) (k : Fin 4) : sProp 𝕄 := at_ c mLdA (rA (ix p k)) (unitA _) (got m c p k)
def cameAt (c : Dev nD) (s : Fin 3) (h : Fin 2) : sProp 𝕄 := at_ c mLdB (rB (ixB s h)) (unitB _) (ringAt m (zl c) s h)

theorem wp_recvA {c : Dev nD} {p : Fin 3} {k : Fin 4} {es : List Due} (hes : ∀ e ∈ es, 2 < lvC (dueCell e)) {Q : PUnit → sProp 𝕄} :
    iprop(env m K ∗ owing c es ∗ due c (cRA (p, k)))
      ⊢ iprop(((owing c es ∗ done c (cRA (p, k)) ∗ gotAt m c p k) -∗ Q ⟨⟩) -∗ wpB c (recvA k p) Q) := by
  have h := wp_waitDma m K (c := c) (i := cRA (p, k)) rfl (src := slotA mStA (ix (rev p) k)) (dst := slotA mLdA (ix p k))
    (hs := ((Memref.isWhole_whole cc0_scratch1).wordExact_slice rfl _ (wordsA _)).reshape _ _)
    (hd := ((Memref.isWhole_whole cc0_scratch2).wordExact_slice rfl _ (wordsA _)).reshape _ _) (Nat.one_mul NA).symm hes (Q := Q)
  rw [show bigSep (dut (cRA (p, k))) (pay m c (cRA (p, k))) = gotAt m c p k from bigSep_zero _] at h
  exact h

theorem wp_sentA {c : Dev nD} {p : Fin 3} {k : Fin 4} {Q : PUnit → sProp 𝕄} :
    iprop(env m K ∗ owing c [] ∗ due c (cSA (p, k)))
      ⊢ iprop(((owing c [] ∗ done c (cSA (p, k)) ∗ freeA c mStA (ix p k)) -∗ Q ⟨⟩) -∗ wpB c (sentA k p) Q) := by
  have h := wp_waitDma m K (c := c) (i := cSA (p, k)) rfl (src := slotA mLdA (ix (rev p) k)) (dst := slotA mStA (ix p k))
    (hs := ((Memref.isWhole_whole cc0_scratch2).wordExact_slice rfl _ (wordsA _)).reshape _ _)
    (hd := ((Memref.isWhole_whole cc0_scratch1).wordExact_slice rfl _ (wordsA _)).reshape _ _) (Nat.one_mul NA).symm (es := [])
    (fun e he => absurd he List.not_mem_nil) (Q := Q)
  rw [show bigSep (dut (cSA (p, k))) (pay m c (cSA (p, k))) = freeA c mStA (ix p k) from bigSep_zero _] at h
  exact h

theorem wp_recvB {c : Dev nD} {s : Fin 3} {h : Fin 2} {es : List Due} (hes : ∀ e ∈ es, 3 + s.val < lvC (dueCell e)) {Q : PUnit → sProp 𝕄} :
    iprop(env m K ∗ owing c es ∗ due c (cRB (s, h)))
      ⊢ iprop(((owing c es ∗ done c (cRB (s, h)) ∗ cameAt m c s h) -∗ Q ⟨⟩) -∗ wpB c (recvB s h) Q) := by
  have hw := wp_waitDma m K (c := c) (i := cRB (s, h)) rfl (src := slotB mStB (ixB s h)) (dst := slotB mLdB (ixB s h))
    (hs := ((Memref.isWhole_whole cc0_scratch3).wordExact_slice rfl _ (wordsB _)).reshape _ _)
    (hd := ((Memref.isWhole_whole cc0_scratch4).wordExact_slice rfl _ (wordsB _)).reshape _ _) (Nat.one_mul NB).symm hes (Q := Q)
  rw [show bigSep (dut (cRB (s, h))) (pay m c (cRB (s, h))) = cameAt m c s h from bigSep_zero _] at hw
  exact hw

theorem wp_sentB {c : Dev nD} {s : Fin 3} {h : Fin 2} {Q : PUnit → sProp 𝕄} :
    iprop(env m K ∗ owing c [] ∗ due c (cSB (s, h)))
      ⊢ iprop(((owing c [] ∗ done c (cSB (s, h)) ∗ freeB c mStB (ixB s h)) -∗ Q ⟨⟩) -∗ wpB c (sentB s h) Q) := by
  have hw := wp_waitDma m K (c := c) (i := cSB (s, h)) rfl (src := slotB mLdB (ixB s h)) (dst := slotB mStB (ixB s h))
    (hs := ((Memref.isWhole_whole cc0_scratch4).wordExact_slice rfl _ (wordsB _)).reshape _ _)
    (hd := ((Memref.isWhole_whole cc0_scratch3).wordExact_slice rfl _ (wordsB _)).reshape _ _) (Nat.one_mul NB).symm (es := [])
    (fun e he => absurd he List.not_mem_nil) (Q := Q)
  rw [show bigSep (dut (cSB (s, h))) (pay m c (cSB (s, h))) = freeB c mStB (ixB s h) from bigSep_zero _] at hw
  exact hw

theorem wp_recv3 {c : Dev nD} {k : Fin 4} {es : List Due} (hes : ∀ e ∈ es, 2 < lvC (dueCell e)) {Q : PUnit → sProp 𝕄} :
    iprop(env m K ∗ owing c es ∗ bigSep Finset.univ fun p : Fin 3 => due c (cRA (p, k)))
      ⊢ iprop(((owing c es ∗ (bigSep Finset.univ fun p : Fin 3 => done c (cRA (p, k))) ∗ gotAt m c 0 k ∗ gotAt m c 1 k ∗ gotAt m c 2 k) -∗ Q ⟨⟩)
          -∗ wpB c (recv3 k) Q) := by
  rw [bigSep3, bigSep3]
  iintro ⟨#He, HO, D0, D1, D2⟩ Hk
  unfold recv3
  iapply (wpB_step (wp_recvA m K hes)) $$ [HO D2]
  · isplitr; · iexact He
    isplitl [HO]; · iexact HO
    iexact D2
  iintro ⟨HO, D2, G2⟩
  iapply (wpB_step (wp_recvA m K hes)) $$ [HO D1]
  · isplitr; · iexact He
    isplitl [HO]; · iexact HO
    iexact D1
  iintro ⟨HO, D1, G1⟩
  iapply (wp_recvA m K hes) $$ [HO D0]
  · isplitr; · iexact He
    isplitl [HO]; · iexact HO
    iexact D0
  iintro ⟨HO, D0, G0⟩
  iapply Hk
  isplitl [HO]; · iexact HO
  isplitl [D0 D1 D2]
  · isplitl [D0]; · iexact D0
    isplitl [D1]; · iexact D1
    iexact D2
  isplitl [G0]; · iexact G0
  isplitl [G1]; · iexact G1
  iexact G2

/-- What a round's last waits give back. -/
def sentPost (c : Dev nD) (k : Fin 4) : sProp 𝕄 := bigSep Finset.univ fun p : Fin 3 => iprop(done c (cSA (p, k)) ∗ freeA c mStA (ix p k))
theorem wp_sent3 {c : Dev nD} {k : Fin 4} {Q : PUnit → sProp 𝕄} :
    iprop(env m K ∗ owing c [] ∗ bigSep Finset.univ fun p : Fin 3 => due c (cSA (p, k)))
      ⊢ iprop(((owing c [] ∗ sentPost c k) -∗ Q ⟨⟩) -∗ wpB c (sent3 k) Q) := by
  unfold sentPost
  rw [bigSep3, bigSep3]
  iintro ⟨#He, HO, D0, D1, D2⟩ Hk
  unfold sent3
  iapply (wpB_step (wp_sentA m K)) $$ [HO D0]
  · isplitr; · iexact He
    isplitl [HO]; · iexact HO
    iexact D0
  iintro ⟨HO, D0⟩
  iapply (wpB_step (wp_sentA m K)) $$ [HO D1]
  · isplitr; · iexact He
    isplitl [HO]; · iexact HO
    iexact D1
  iintro ⟨HO, D1⟩
  iapply (wp_sentA m K) $$ [HO D2]
  · isplitr; · iexact He
    isplitl [HO]; · iexact HO
    iexact D2
  iintro ⟨HO, D2⟩
  iapply Hk
  isplitl [HO]; · iexact HO
  isplitl [D0]; · iexact D0
  isplitl [D1]; · iexact D1
  iexact D2

/-! ## The ring's copies -/

/-- What one copy of the ring needs. -/
def todoB (c : Dev nD) (s : Fin 3) (h : Fin 2) : sProp 𝕄 :=
  iprop(freeB c mStB (ixB s h) ∗ freeB (zr c) mLdB (ixB s h) ∗ tok c (cSB (s, h)) 0 ∗ tok (zr c) (cRB (s, h)) 0
    ∗ atPos ER (kcell (c, cSB (s, h))) 0 ∅ 0)

theorem wp_putB {c : Dev nD} {s : Fin 3} {h : Fin 2} {es : List Due} {v : FVec F S1x256x1024 .bf16} (hv : v = ringAt m c s h) {Q : PUnit → sProp 𝕄} :
    iprop(env m K ∗ owing c (.inr (.inr (s, h)) :: es) ∗ todoB c s h)
      ⊢ iprop(((owing c es ∗ due c (cSB (s, h))) -∗ Q ⟨⟩) -∗ wpB c (putB c s h v) Q) := by
  subst hv
  unfold todoB owing tok due
  rw [show freeB (F := F) c mStB (ixB s h) = iprop(∃ X, at_ c mStB (rB (ixB s h)) (unitB _) X) from rfl]
  iintro ⟨#He, ⟨%W, HO⟩, ⟨%X, Hs⟩, Hd, Ht₁, Ht₂, Hat⟩ Hk
  unfold putB sendB
  simp only [Prog.lift, Prog.bind_op, Prog.bind_ret, Prog.pure_eq_ret]
  iapply (wp_load_at rfl) $$ Hs
  iintro Hs
  iapply (wp_store_at rfl) $$ Hs
  iintro Hs
  iapply (wp_send_squeezed (Rd m) (c := c) (c' := zr c) (n := devB s h c) (devB_eq s h c) (m₁ := mStB.slice (rB (ixB s h)) (fun _ => rfl))
    (m₂ := mLdB.slice (rB (ixB s h)) (fun _ => rfl)) (sS := semB cc0_scratch7 (ixB s h)) (sR := semB cc0_scratch8 (ixB s h))
    (κ₁ := K (c, cSB (s, h))) (κ₂ := K (zr c, cRB (s, h))) (d₁ := 0) (d₂ := 0) (W := W)
    (by rw [duties_eq m c (cSB (s, h))]; exact Finset.mem_singleton_self 0)
    (by rw [duties_eq m (zr c) (cRB (s, h))]; exact Finset.mem_singleton_self 0)
    NB rfl (amount_eq m c (cSB (s, h)) 0 0) (amount_eq m (zr c) (cRB (s, h)) 0 0) (O₀ := rem c (.inr (.inr (s, h)) :: es)) (rem c es) rfl
    (X := ringAt m c s h)
    (by
      rw [payload_eq m c (cSB (s, h)) 0 0]
      show _ ⊢ freeB c mStB (ixB s h)
      unfold freeB; iintro H; iexists _; iexact H)
    (by
      rw [payload_eq m (zr c) (cRB (s, h)) 0 0]
      show _ ⊢ at_ (zr c) mLdB (rB (ixB s h)) (unitB _) (ringAt m (zl (zr c)) s h)
      rw [zl_zr])) $$ [HO Hs Hd Ht₁ Ht₂]
  · isplitr; · iapply (env_inv m K c (cSB (s, h))); iexact He
    isplitr; · iapply (env_inv m K (zr c) (cRB (s, h))); iexact He
    isplitl [Hs]; · iexact Hs
    isplitl [Hd]; · unfold freeB; iexact Hd
    isplitl [HO]; · iexact HO
    isplitl [Ht₁]; · iexact Ht₁
    isplitr; · iapply (env_reached m K c (cSB (s, h))); iexact He
    isplitl [Ht₂]; · iexact Ht₂
    iapply (env_reached m K (zr c) (cRB (s, h))); iexact He
  iintro ⟨Hc, HO⟩
  iapply wpB_ret
  iapply Hk
  isplitl [HO]; · iexists W; iexact HO
  isplitl [Hat]; · iexact Hat
  rw [show (dut (cSB (s, h))).card * amt (cSB (s, h)) = NB from Nat.one_mul _]
  iexact Hc

/-! ## The sums -/

theorem half_emb (i : Fin 16) (h : Fin 2) (h' : ∀ a, (![256 * i.val, 1024 * h.val] : Fin 2 → ℕ) a + S256x1024.size a ≤ S4096x2048.size a)
    (j : S256x1024.Idx) : (Rect.unit (s := S4096x2048) ![256 * i.val, 1024 * h.val] S256x1024.size h').emb j = (rC i).emb ((rO h).emb j) :=
  funext fun a => Fin.ext (by
    rw [Rect.emb_apply, Rect.emb_apply, Rect.emb_apply]; fin_cases a <;> simp)
theorem slot_emb (i : Fin 12) (h : Fin 2) (j : S1x256x1024.Idx) : (rAh i h).emb j = (rA i).emb ((rL h).emb j) :=
  funext fun a => Fin.ext (by
    rw [Rect.emb_apply, Rect.emb_apply, Rect.emb_apply]; fin_cases a <;> simp)

/-- Reading half the columns of a chunk, of a slot. -/
theorem wp_loadHalf {c : Dev nD} {i : Fin 16} {h : Fin 2} {off' : Fin 2 → ℕ} {h' : ∀ a, off' a + S256x1024.size a ≤ S4096x2048.size a}
    (ho : off' = ![256 * i.val, 1024 * h.val]) {hl : mAcc.view.LoadsAt (Rect.unit (s := S4096x2048) off' S256x1024.size h').toLoadRect}
    {X : Vec F S256x2048 .f32} {α : Type} {Q : α → sProp 𝕄} {k : Vec F S256x1024 .f32 → Pr F α} :
    accAt c i X ⊢ iprop((accAt c i X -∗ wpB c (k (hC X h)) Q)
      -∗ wpB c (.op (.load mAcc (Rect.unit (s := S4096x2048) off' S256x1024.size h').toLoadRect hl) k) Q) := by
  subst ho
  unfold accAt
  exact wp_load_in (m := mAcc) (r := rC i) (r' := Rect.unit (s := S4096x2048) ![256 * i.val, 1024 * h.val] S256x1024.size h') (X := X) (unitC i) (rO h).emb (half_emb i h h')

theorem wp_loadGot {c : Dev nD} {p : Fin 3} {k₀ : Fin 4} {h : Fin 2} {hl : mLdA.view.LoadsAt (rAh (ix p k₀) h).toLoadRect}
    {α : Type} {Q : α → sProp 𝕄} {k : Vec F S1x256x1024 .i8 → Pr F α} :
    gotAt m c p k₀ ⊢ iprop((gotAt m c p k₀ -∗ wpB c (k (hL (got m c p k₀) h)) Q)
      -∗ wpB c (.op (.load mLdA (rAh (ix p k₀) h).toLoadRect hl) k) Q) := by
  unfold gotAt
  exact wp_load_in (m := mLdA) (r := rA (ix p k₀)) (r' := rAh (ix p k₀) h) (X := got m c p k₀) (unitA _) (rL h).emb (slot_emb _ h)

theorem wp_half0 {c : Dev nD} {h : Fin 2} {es : List Due} {Q : PUnit → sProp 𝕄} :
    iprop(env m K ∗ owing c (.inr (.inr (0, h)) :: es) ∗ accAt c (chunk c 0 0) (part m c (chunk c 0 0))
        ∗ (gotAt m c 0 0 ∗ gotAt m c 1 0 ∗ gotAt m c 2 0) ∗ todoB c 0 h)
      ⊢ iprop(((owing c es ∗ accAt c (chunk c 0 0) (part m c (chunk c 0 0)) ∗ (gotAt m c 0 0 ∗ gotAt m c 1 0 ∗ gotAt m c 2 0) ∗ due c (cSB (0, h))) -∗ Q ⟨⟩)
          -∗ wpB c (half0 c h) Q) := by
  iintro ⟨#He, HO, Ha, ⟨G0, G1, G2⟩, Ht⟩ Hk
  unfold half0 loadH
  simp only [Prog.lift, Prog.bind_op, Prog.bind_ret]
  iapply (wp_loadHalf (i := chunk c 0 0) (offH_eq c 0 h)) $$ Ha
  iintro Ha
  iapply (wp_loadGot m) $$ G0
  iintro G0
  iapply (wp_loadGot m) $$ G1
  iintro G1
  iapply (wp_loadGot m) $$ G2
  iintro G2
  iapply (wp_putB m K (by rfl)) $$ [HO Ht]
  · isplitr; · iexact He
    isplitl [HO]; · iexact HO
    iexact Ht
  iintro ⟨HO, Ht⟩
  iapply Hk
  isplitl [HO]; · iexact HO
  isplitl [Ha]; · iexact Ha
  isplitr [Ht]
  · isplitl [G0]; · iexact G0
    isplitl [G1]; · iexact G1
    iexact G2
  iexact Ht

theorem wp_addA {c : Dev nD} {s : Fin 3} {k : Fin 4} (hk : s.succ = k) {Q : PUnit → sProp 𝕄} :
    iprop(accAt c (chunk c k 0) (part m c (chunk c k 0)) ∗ (gotAt m c 0 k ∗ gotAt m c 1 k ∗ gotAt m c 2 k))
      ⊢ iprop(((accAt c (chunk c k 0) (kept m c s) ∗ (gotAt m c 0 k ∗ gotAt m c 1 k ∗ gotAt m c 2 k)) -∗ Q ⟨⟩)
          -∗ wpB c (addA c s) Q) := by
  subst hk
  unfold accAt gotAt
  iintro ⟨Ha, G0, G1, G2⟩ Hk
  unfold addA
  simp only [Prog.lift, Prog.bind_op, Prog.bind_ret]
  iapply (wp_load_at (offK_eq c s)) $$ Ha
  iintro Ha
  iapply (wp_load_at rfl) $$ G0
  iintro G0
  iapply (wp_load_at rfl) $$ G1
  iintro G1
  iapply (wp_load_at rfl) $$ G2
  iintro G2
  iapply (wp_load_at (offK_eq c s)) $$ Ha
  iintro Ha
  iapply (wp_store_at (offK_eq c s)) $$ Ha
  iintro Ha
  iapply wpB_ret
  iapply Hk
  isplitl [Ha]; · iexact Ha
  isplitl [G0]; · iexact G0
  isplitl [G1]; · iexact G1
  iexact G2

theorem wp_half1 {c : Dev nD} {s : Fin 2} {s₁ s₂ : Fin 3} {k : Fin 4} (h₁ : s.castSucc = s₁) (h₂ : s.succ = s₂) (hk : s₁.succ = k) {h : Fin 2} {es : List Due} (hes : ∀ e ∈ (.inr (.inr (s₂, h)) :: es : List Due), 3 + s.val < lvC (dueCell e))
    {Q : PUnit → sProp 𝕄} :
    iprop(env m K ∗ owing c (.inr (.inr (s₂, h)) :: es) ∗ accAt c (chunk c k 0) (kept m c s₁)
        ∗ due c (cRB (s₁, h)) ∗ todoB c s₂ h)
      ⊢ iprop(((owing c es ∗ accAt c (chunk c k 0) (kept m c s₁) ∗ (done c (cRB (s₁, h)) ∗ cameAt m c s₁ h)
            ∗ due c (cSB (s₂, h))) -∗ Q ⟨⟩)
          -∗ wpB c (half1 c s h) Q) := by
  subst h₁ h₂ hk
  iintro ⟨#He, HO, Ha, Hd, Ht⟩ Hk
  unfold half1 loadH
  iapply (wpB_step (wp_recvB m K hes)) $$ [HO Hd]
  · isplitr; · iexact He
    isplitl [HO]; · iexact HO
    iexact Hd
  iintro ⟨HO, Hd, Hc⟩
  simp only [Prog.lift, Prog.bind_op, Prog.bind_ret]
  iapply (wp_loadHalf (i := chunk c s.castSucc.succ 0) (offH_eq c s.succ h)) $$ Ha
  iintro Ha
  unfold cameAt
  iapply (wp_load_at rfl) $$ Hc
  iintro Hc
  iapply (wp_putB m K (ringAt_succ m c s h).symm) $$ [HO Ht]
  · isplitr; · iexact He
    isplitl [HO]; · iexact HO
    iexact Ht
  iintro ⟨HO, Ht⟩
  iapply Hk
  isplitl [HO]; · iexact HO
  isplitl [Ha]; · iexact Ha
  isplitr [Ht]
  · isplitl [Hd]; · iexact Hd
    iexact Hc
  iexact Ht

/-! ## The result -/

def ws (c : Dev nD) : sProp 𝕄 := iprop(((c : Thread nD τ).loc cc0_stg1_0) ↦{fullShare} (wB m c))
def sxs (c : Dev nD) : sProp 𝕄 := iprop(((c : Thread nD τ).loc cc0_stg2_0) ↦{fullShare} (sxB m c))
def sws (c : Dev nD) : sProp 𝕄 := iprop(((c : Thread nD τ).loc cc0_stg3_0) ↦{fullShare} (swB m c))

theorem wp_loadW {c : Dev nD} {Q : FVec F S256x2048 .bf16 → sProp 𝕄} :
    ws m c ⊢ iprop((ws m c -∗ Q (k0_pay1 (wB m c))) -∗ wpB c loadW Q) := by
  unfold ws
  iintro H Hk
  unfold loadW
  simp only [Prog.lift, Prog.bind_op, Prog.bind_ret, Prog.pure_eq_ret]
  iapply (wp_load_rect (defs := defs₀ (F := F)) 𝒱₀ (c : Thread nD τ) none Set.univ (m := mW)
    (r := Rect.unit (s := S256x2048) ![0, 0] S256x2048.size inb_S256x2048_S256x2048_0_0) (Q := Q) (q := fullShare) (f := wB m c)
    (S := Finset.univ) (Finset.subset_univ _)) $$ H
  iintro H
  rw [show ((mW.access (Rect.unit (s := S256x2048) ![0, 0] S256x2048.size inb_S256x2048_S256x2048_0_0)).read (Elt F) (wB m c) : Vec F S256x2048 .fp8e4m3) = wB m c
    from funext fun j => congrArg (wB m c) (funext fun a => Fin.ext (by
      show (![0, 0] : Fin 2 → ℕ) a + 1 * (j a).val = (j a).val
      fin_cases a <;> simp))]
  iapply wpB_ret
  iapply Hk
  iexact H

theorem wp_scaleStep {c : Dev nD} {Q : F .f32 → sProp 𝕄} :
    iprop(sxs m c ∗ sws m c) ⊢ iprop(((sxs m c ∗ sws m c) -∗ Q (k0_pay55 (sxB m c i0) (swB m c i0))) -∗ wpB c scaleStep Q) := by
  unfold sxs sws
  iintro ⟨H2, H3⟩ Hk
  unfold scaleStep smemLoad smemLoadElt
  simp only [Prog.lift, Prog.bind_op, Prog.bind_ret, Prog.pure_eq_ret]
  iapply (wp_load_rect (defs := defs₀ (F := F)) 𝒱₀ (c : Thread nD τ) none Set.univ (m := mSx)
    (r := Rect.unit (s := S1) ![0] S1.size inb_S1_S1_0) (Q := Q) (q := fullShare) (f := sxB m c)
    (S := Finset.univ) (Finset.subset_univ _)) $$ H2
  iintro H2
  iapply (wp_load_rect (defs := defs₀ (F := F)) 𝒱₀ (c : Thread nD τ) none Set.univ (m := mSw)
    (r := Rect.unit (s := S1) ![0] S1.size inb_S1_S1_0) (Q := Q) (q := fullShare) (f := swB m c)
    (S := Finset.univ) (Finset.subset_univ _)) $$ H3
  iintro H3
  rw [show ∀ x, (mSx.access (Rect.unit (s := S1) ![0] S1.size inb_S1_S1_0)).read (Elt F) (sxB m c) x = sxB m c i0 from fun x => congrArg (sxB m c) (eq_i0 _),
    show ∀ x, (mSw.access (Rect.unit (s := S1) ![0] S1.size inb_S1_S1_0)).read (Elt F) (swB m c) x = swB m c i0 from fun x => congrArg (swB m c) (eq_i0 _)]
  iapply wpB_ret
  iapply Hk
  isplitl [H2]; · iexact H2
  iexact H3

/-- A half of the result block. -/
def outFree (c : Dev nD) (h : Fin 2) : sProp 𝕄 := iprop(∃ X, at_ c mOut (rO h) (fun _ => rfl) X)
def outDone (c : Dev nD) (h : Fin 2) : sProp 𝕄 := at_ c mOut (rO h) (fun _ => rfl) (outH m c h)

theorem wp_halfO {c : Dev nD} {h : Fin 2} {Q : PUnit → sProp 𝕄} :
    iprop(env m K ∗ owing c [] ∗ accAt c (chunk c 3 0) (kept m c 2) ∗ due c (cRB (2, h)) ∗ outFree c h)
      ⊢ iprop(((owing c [] ∗ accAt c (chunk c 3 0) (kept m c 2) ∗ (done c (cRB (2, h)) ∗ cameAt m c 2 h) ∗ outDone m c h) -∗ Q ⟨⟩)
          -∗ wpB c (halfO c (k0_pay55 (sxB m c i0) (swB m c i0)) h) Q) := by
  unfold outFree outDone
  iintro ⟨#He, HO, Ha, Hd, ⟨%X, Ho⟩⟩ Hk
  unfold halfO
  iapply (wpB_step (wp_recvB m K (es := []) (fun e he => absurd he List.not_mem_nil))) $$ [HO Hd]
  · isplitr; · iexact He
    isplitl [HO]; · iexact HO
    iexact Hd
  iintro ⟨HO, Hd, Hc⟩
  simp only [Prog.lift, Prog.bind_op, Prog.bind_ret]
  iapply (wp_loadHalf (offL_eq c h)) $$ Ha
  iintro Ha
  unfold cameAt
  iapply (wp_load_at rfl) $$ Hc
  iintro Hc
  iapply (wp_load_at rfl) $$ Ho
  iintro Ho
  iapply (wp_store_at rfl) $$ Ho
  iintro Ho
  iapply wpB_ret
  iapply Hk
  isplitl [HO]; · iexact HO
  isplitl [Ha]; · iexact Ha
  isplitr [Ho]
  · isplitl [Hd]; · iexact Hd
    iexact Hc
  iexact Ho

end Cert.Scatter

end
-- ==== Proof.Phases.lean ====
/-
The phases: the steps composed in program order.
-/
module

public import proofs.«01_k».proof.Proof.Ring

@[expose] public section

set_option maxRecDepth 20000

noncomputable section

namespace Cert.Scatter

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × Cell → ℕ)

/-- What is to arrive from the plane at step `k`, and what has. -/
def comingA (c : Dev nD) (k : Fin 4) : sProp 𝕄 := bigSep Finset.univ fun p : Fin 3 => due c (cRA (p, k))
def landedA (c : Dev nD) (k : Fin 4) : sProp 𝕄 :=
  iprop((bigSep Finset.univ fun p : Fin 3 => done c (cRA (p, k))) ∗ gotAt m c 0 k ∗ gotAt m c 1 k ∗ gotAt m c 2 k)
/-- What has arrived from the ring. -/
def landedB (c : Dev nD) (s : Fin 3) (h : Fin 2) : sProp 𝕄 := iprop(done c (cRB (s, h)) ∗ cameAt m c s h)
/-- A slot of the ring sent and given back. -/
def sentB1 (c : Dev nD) (s : Fin 3) (h : Fin 2) : sProp 𝕄 := iprop(done c (cSB (s, h)) ∗ freeB c mStB (ixB s h))

set_option maxHeartbeats 1000000 in
theorem wp_phaseB {c : Dev nD} {Q : PUnit → sProp 𝕄} :
    iprop(env m K ∗ owing c (duesB 0 ++ (duesB 1 ++ duesB 2)) ∗ (comingA c 0 ∗ comingA c 1 ∗ comingA c 2)
        ∗ (accAt c (chunk c 0 0) (part m c (chunk c 0 0)) ∗ accAt c (chunk c 1 0) (part m c (chunk c 1 0)) ∗ accAt c (chunk c 2 0) (part m c (chunk c 2 0)))
        ∗ (todoB c 0 0 ∗ todoB c 0 1 ∗ todoB c 1 0 ∗ todoB c 1 1 ∗ todoB c 2 0 ∗ todoB c 2 1)
        ∗ (due c (cRB (0, 0)) ∗ due c (cRB (0, 1)) ∗ due c (cRB (1, 0)) ∗ due c (cRB (1, 1))))
      ⊢ iprop(((owing c [] ∗ (landedA m c 0 ∗ landedA m c 1 ∗ landedA m c 2)
            ∗ (accAt c (chunk c 0 0) (part m c (chunk c 0 0)) ∗ accAt c (chunk c 1 0) (kept m c 0) ∗ accAt c (chunk c 2 0) (kept m c 1))
            ∗ (due c (cSB (0, 0)) ∗ due c (cSB (0, 1)) ∗ due c (cSB (1, 0)) ∗ due c (cSB (1, 1)) ∗ due c (cSB (2, 0)) ∗ due c (cSB (2, 1)))
            ∗ (landedB m c 0 0 ∗ landedB m c 0 1 ∗ landedB m c 1 0 ∗ landedB m c 1 1)) -∗ Q ⟨⟩)
          -∗ wpB c (phaseB c) Q) := by
  unfold comingA landedA landedB
  iintro ⟨#He, HO, ⟨R0, R1, R2⟩, ⟨A0, A1, A2⟩, ⟨T00, T01, T10, T11, T20, T21⟩, ⟨V00, V01, V10, V11⟩⟩ Hk
  unfold phaseB
  iapply (wpB_step (wp_recv3 m K (es := duesB 0 ++ (duesB 1 ++ duesB 2)) (by decide))) $$ [HO R0]
  · isplitr; · iexact He
    isplitl [HO]; · iexact HO
    iexact R0
  iintro ⟨HO, R0, G00, G01, G02⟩
  iapply (wpB_step (wp_half0 m K)) $$ [HO A0 G00 G01 G02 T00]
  · isplitr; · iexact He
    isplitl [HO]; · iexact HO
    isplitl [A0]; · iexact A0
    isplitl [G00 G01 G02]
    · isplitl [G00]; · iexact G00
      isplitl [G01]; · iexact G01
      iexact G02
    iexact T00
  iintro ⟨HO, A0, ⟨G00, G01, G02⟩, T00⟩
  iapply (wpB_step (wp_half0 m K)) $$ [HO A0 G00 G01 G02 T01]
  · isplitr; · iexact He
    isplitl [HO]; · iexact HO
    isplitl [A0]; · iexact A0
    isplitl [G00 G01 G02]
    · isplitl [G00]; · iexact G00
      isplitl [G01]; · iexact G01
      iexact G02
    iexact T01
  iintro ⟨HO, A0, ⟨G00, G01, G02⟩, T01⟩
  iapply (wpB_step (wp_recv3 m K (es := duesB 1 ++ duesB 2) (by decide))) $$ [HO R1]
  · isplitr; · iexact He
    isplitl [HO]; · iexact HO
    iexact R1
  iintro ⟨HO, R1, G10, G11, G12⟩
  iapply (wpB_step (wp_addA m (s := 0) (k := 1) rfl)) $$ [A1 G10 G11 G12]
  · isplitl [A1]; · iexact A1
    isplitl [G10]; · iexact G10
    isplitl [G11]; · iexact G11
    iexact G12
  iintro ⟨A1, ⟨G10, G11, G12⟩⟩
  iapply (wpB_step (wp_half1 m K (es := Sum.inr (Sum.inr (1, 1)) :: duesB 2) (s := 0) (s₁ := 0) (s₂ := 1) (k := 1) rfl rfl rfl (by decide))) $$ [HO A1 V00 T10]
  · isplitr; · iexact He
    isplitl [HO]; · iexact HO
    isplitl [A1]; · iexact A1
    isplitl [V00]; · iexact V00
    iexact T10
  iintro ⟨HO, A1, V00, T10⟩
  iapply (wpB_step (wp_half1 m K (es := duesB 2) (s := 0) (s₁ := 0) (s₂ := 1) (k := 1) rfl rfl rfl (by decide))) $$ [HO A1 V01 T11]
  · isplitr; · iexact He
    isplitl [HO]; · iexact HO
    isplitl [A1]; · iexact A1
    isplitl [V01]; · iexact V01
    iexact T11
  iintro ⟨HO, A1, V01, T11⟩
  iapply (wpB_step (wp_recv3 m K (es := duesB 2) (by decide))) $$ [HO R2]
  · isplitr; · iexact He
    isplitl [HO]; · iexact HO
    iexact R2
  iintro ⟨HO, R2, G20, G21, G22⟩
  iapply (wpB_step (wp_addA m (s := 1) (k := 2) rfl)) $$ [A2 G20 G21 G22]
  · isplitl [A2]; · iexact A2
    isplitl [G20]; · iexact G20
    isplitl [G21]; · iexact G21
    iexact G22
  iintro ⟨A2, ⟨G20, G21, G22⟩⟩
  iapply (wpB_step (wp_half1 m K (es := [Sum.inr (Sum.inr (2, 1))]) (s := 1) (s₁ := 1) (s₂ := 2) (k := 2) rfl rfl rfl (by decide))) $$ [HO A2 V10 T20]
  · isplitr; · iexact He
    isplitl [HO]; · iexact HO
    isplitl [A2]; · iexact A2
    isplitl [V10]; · iexact V10
    iexact T20
  iintro ⟨HO, A2, V10, T20⟩
  iapply (wp_half1 m K (es := []) (s := 1) (s₁ := 1) (s₂ := 2) (k := 2) rfl rfl rfl (by decide)) $$ [HO A2 V11 T21]
  · isplitr; · iexact He
    isplitl [HO]; · iexact HO
    isplitl [A2]; · iexact A2
    isplitl [V11]; · iexact V11
    iexact T21
  iintro ⟨HO, A2, V11, T21⟩
  iapply Hk
  isplitl [HO]; · iexact HO
  isplitl [R0 G00 G01 G02 R1 G10 G11 G12 R2 G20 G21 G22]
  · isplitl [R0 G00 G01 G02]
    · isplitl [R0]; · iexact R0
      isplitl [G00]; · iexact G00
      isplitl [G01]; · iexact G01
      iexact G02
    isplitl [R1 G10 G11 G12]
    · isplitl [R1]; · iexact R1
      isplitl [G10]; · iexact G10
      isplitl [G11]; · iexact G11
      iexact G12
    isplitl [R2]; · iexact R2
    isplitl [G20]; · iexact G20
    isplitl [G21]; · iexact G21
    iexact G22
  isplitl [A0 A1 A2]
  · isplitl [A0]; · iexact A0
    isplitl [A1]; · iexact A1
    iexact A2
  isplitl [T00 T01 T10 T11 T20 T21]
  · isplitl [T00]; · iexact T00
    isplitl [T01]; · iexact T01
    isplitl [T10]; · iexact T10
    isplitl [T11]; · iexact T11
    isplitl [T20]; · iexact T20
    iexact T21
  isplitl [V00]; · iexact V00
  isplitl [V01]; · iexact V01
  isplitl [V10]; · iexact V10
  iexact V11

theorem wp_phaseC {c : Dev nD} {Q : PUnit → sProp 𝕄} :
    iprop(env m K ∗ owing c [] ∗ comingA c 3 ∗ accAt c (chunk c 3 0) (part m c (chunk c 3 0)) ∗ (sxs m c ∗ sws m c)
        ∗ (due c (cRB (2, 0)) ∗ due c (cRB (2, 1))) ∗ (outFree c 0 ∗ outFree c 1))
      ⊢ iprop(((owing c [] ∗ landedA m c 3 ∗ accAt c (chunk c 3 0) (kept m c 2) ∗ (sxs m c ∗ sws m c)
            ∗ (landedB m c 2 0 ∗ landedB m c 2 1) ∗ (outDone m c 0 ∗ outDone m c 1)) -∗ Q ⟨⟩)
          -∗ wpB c (phaseC c) Q) := by
  unfold comingA landedA landedB
  iintro ⟨#He, HO, R3, A3, ⟨X2, X3⟩, ⟨V20, V21⟩, ⟨O0, O1⟩⟩ Hk
  unfold phaseC
  iapply (wpB_step (wp_recv3 m K (es := []) (fun e he => absurd he List.not_mem_nil))) $$ [HO R3]
  · isplitr; · iexact He
    isplitl [HO]; · iexact HO
    iexact R3
  iintro ⟨HO, R3, G30, G31, G32⟩
  iapply (wpB_step (wp_addA m (s := 2) (k := 3) rfl)) $$ [A3 G30 G31 G32]
  · isplitl [A3]; · iexact A3
    isplitl [G30]; · iexact G30
    isplitl [G31]; · iexact G31
    iexact G32
  iintro ⟨A3, ⟨G30, G31, G32⟩⟩
  iapply (wpB_step (wp_scaleStep m)) $$ [X2 X3]
  · isplitl [X2]; · iexact X2
    iexact X3
  iintro ⟨X2, X3⟩
  iapply (wpB_step (wp_halfO m K)) $$ [HO A3 V20 O0]
  · isplitr; · iexact He
    isplitl [HO]; · iexact HO
    isplitl [A3]; · iexact A3
    isplitl [V20]; · iexact V20
    iexact O0
  iintro ⟨HO, A3, V20, O0⟩
  iapply (wp_halfO m K) $$ [HO A3 V21 O1]
  · isplitr; · iexact He
    isplitl [HO]; · iexact HO
    isplitl [A3]; · iexact A3
    isplitl [V21]; · iexact V21
    iexact O1
  iintro ⟨HO, A3, V21, O1⟩
  iapply Hk
  isplitl [HO]; · iexact HO
  isplitl [R3 G30 G31 G32]
  · isplitl [R3]; · iexact R3
    isplitl [G30]; · iexact G30
    isplitl [G31]; · iexact G31
    iexact G32
  isplitl [A3]; · iexact A3
  isplitl [X2 X3]
  · isplitl [X2]; · iexact X2
    iexact X3
  isplitl [V20 V21]
  · isplitl [V20]; · iexact V20
    iexact V21
  isplitl [O0]; · iexact O0
  iexact O1

theorem wp_drain {c : Dev nD} {Q : PUnit → sProp 𝕄} :
    iprop(env m K ∗ owing c [] ∗ (bigSep Finset.univ fun k : Fin 4 => bigSep Finset.univ fun p : Fin 3 => due c (cSA (p, k)))
        ∗ (due c (cSB (0, 0)) ∗ due c (cSB (0, 1)) ∗ due c (cSB (1, 0)) ∗ due c (cSB (1, 1)) ∗ due c (cSB (2, 0)) ∗ due c (cSB (2, 1))))
      ⊢ iprop(((owing c [] ∗ (bigSep Finset.univ (sentPost c)) ∗ (sentB1 c 0 0 ∗ sentB1 c 0 1 ∗ sentB1 c 1 0 ∗ sentB1 c 1 1 ∗ sentB1 c 2 0 ∗ sentB1 c 2 1)) -∗ Q ⟨⟩)
          -∗ wpB c drain Q) := by
  unfold sentB1
  rw [bigSep4, bigSep4]
  iintro ⟨#He, HO, ⟨S0, S1, S2, S3⟩, T00, T01, T10, T11, T20, T21⟩ Hk
  unfold drain
  iapply (wpB_step (wp_sent3 m K)) $$ [HO S0]
  · isplitr; · iexact He
    isplitl [HO]; · iexact HO
    iexact S0
  iintro ⟨HO, S0⟩
  iapply (wpB_step (wp_sent3 m K)) $$ [HO S1]
  · isplitr; · iexact He
    isplitl [HO]; · iexact HO
    iexact S1
  iintro ⟨HO, S1⟩
  iapply (wpB_step (wp_sent3 m K)) $$ [HO S2]
  · isplitr; · iexact He
    isplitl [HO]; · iexact HO
    iexact S2
  iintro ⟨HO, S2⟩
  iapply (wpB_step (wp_sent3 m K)) $$ [HO S3]
  · isplitr; · iexact He
    isplitl [HO]; · iexact HO
    iexact S3
  iintro ⟨HO, S3⟩
  iapply (wpB_step (wp_sentB m K)) $$ [HO T00]
  · isplitr; · iexact He
    isplitl [HO]; · iexact HO
    iexact T00
  iintro ⟨HO, T00⟩
  iapply (wpB_step (wp_sentB m K)) $$ [HO T01]
  · isplitr; · iexact He
    isplitl [HO]; · iexact HO
    iexact T01
  iintro ⟨HO, T01⟩
  iapply (wpB_step (wp_sentB m K)) $$ [HO T10]
  · isplitr; · iexact He
    isplitl [HO]; · iexact HO
    iexact T10
  iintro ⟨HO, T10⟩
  iapply (wpB_step (wp_sentB m K)) $$ [HO T11]
  · isplitr; · iexact He
    isplitl [HO]; · iexact HO
    iexact T11
  iintro ⟨HO, T11⟩
  iapply (wpB_step (wp_sentB m K)) $$ [HO T20]
  · isplitr; · iexact He
    isplitl [HO]; · iexact HO
    iexact T20
  iintro ⟨HO, T20⟩
  iapply (wp_sentB m K) $$ [HO T21]
  · isplitr; · iexact He
    isplitl [HO]; · iexact HO
    iexact T21
  iintro ⟨HO, T21⟩
  iapply Hk
  isplitl [HO]; · iexact HO
  isplitl [S0 S1 S2 S3]
  · isplitl [S0]; · iexact S0
    isplitl [S1]; · iexact S1
    isplitl [S2]; · iexact S2
    iexact S3
  isplitl [T00]; · iexact T00
  isplitl [T01]; · iexact T01
  isplitl [T10]; · iexact T10
  isplitl [T11]; · iexact T11
  isplitl [T20]; · iexact T20
  iexact T21

end Cert.Scatter

end
-- ==== Proof.Pieces.lean ====
/-
The buffers whole and in pieces: the accumulator in its sixteen chunks, the slots one by one, the result in its halves; and
what the entry barrier hands over.
-/
module

public import proofs.«01_k».proof.Proof.Phases

@[expose] public section

set_option maxRecDepth 20000

noncomputable section

namespace Cert.Scatter

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × Cell → ℕ)

/-! ## Rectangles that tile a buffer -/

/-- Disjoint rectangles with as many elements as the buffer cover it. -/
theorem cover_of_numel {s : Shape} {T : Type} [Fintype T] [DecidableEq T] (r : T → Rect s) (hd : ∀ t t', t ≠ t' → Disjoint (r t).set (r t').set)
    (h : ∑ t, (r t).shape.numel = s.numel) : (Finset.univ : Finset T).biUnion (fun t => (r t).set) = Finset.univ := by
  refine Finset.eq_univ_of_card _ ?_
  rw [Finset.card_biUnion fun x _ y _ hxy => hd x y hxy, Shape.card_idx, ← h]
  exact Finset.sum_congr rfl fun t _ => Rect.card_set (r t)

theorem rA_disjoint (x y : IA) (h : x ≠ y) : Disjoint (rA (ix x.1 x.2)).set (rA (ix y.1 y.2)).set :=
  Rect.disjoint_of_separated _ _ (0 : Fin 3) (by revert x y; decide)
theorem rB_disjoint (x y : IB) (h : x ≠ y) : Disjoint (rB (ixB x.1 x.2)).set (rB (ixB y.1 y.2)).set :=
  Rect.disjoint_of_separated _ _ (0 : Fin 3) (by revert x y; decide)
theorem rC_disjoint' (i j : Fin 16) (h : i ≠ j) : Disjoint (rC i).set (rC j).set :=
  Rect.disjoint_of_separated _ _ (0 : Fin 2) (by revert i j; decide)
theorem rC_disjoint (c : Dev nD) (x y : Fin 4 × Fin 4) (h : x ≠ y) : Disjoint (rC (chunk c x.1 x.2)).set (rC (chunk c y.1 y.2)).set :=
  rC_disjoint' _ _ fun h' => h (chunk_inj c h')
theorem rO_disjoint (i j : Fin 2) (h : i ≠ j) : Disjoint (rO i).set (rO j).set :=
  Rect.disjoint_of_separated _ _ (1 : Fin 2) (by revert i j; decide)

theorem rA_cover : (Finset.univ : Finset IA).biUnion (fun x => (rA (ix x.1 x.2)).set) = Finset.univ :=
  cover_of_numel _ rA_disjoint (by
    rw [Finset.sum_congr rfl fun (x : IA) _ => show (rA (ix x.1 x.2)).shape.numel = S1x256x2048.numel from rfl, Finset.sum_const, smul_eq_mul]
    decide)
theorem rB_cover : (Finset.univ : Finset IB).biUnion (fun x => (rB (ixB x.1 x.2)).set) = Finset.univ :=
  cover_of_numel _ rB_disjoint (by
    rw [Finset.sum_congr rfl fun (x : IB) _ => show (rB (ixB x.1 x.2)).shape.numel = S1x256x1024.numel from rfl, Finset.sum_const, smul_eq_mul]
    decide)
theorem rC_cover (c : Dev nD) : (Finset.univ : Finset (Fin 4 × Fin 4)).biUnion (fun x => (rC (chunk c x.1 x.2)).set) = Finset.univ :=
  cover_of_numel _ (rC_disjoint c) (by
    rw [Finset.sum_congr rfl fun (x : Fin 4 × Fin 4) _ => show (rC (chunk c x.1 x.2)).shape.numel = S256x2048.numel from rfl, Finset.sum_const, smul_eq_mul]
    decide)
theorem rO_cover : (Finset.univ : Finset (Fin 2)).biUnion (fun x => (rO x).set) = Finset.univ :=
  cover_of_numel _ rO_disjoint (by
    rw [Finset.sum_congr rfl fun (x : Fin 2) _ => show (rO x).shape.numel = S256x1024.numel from rfl, Finset.sum_const, smul_eq_mul]
    decide)

/-! ## The scratch buffers -/

/-- A whole buffer of the device at some contents. -/
def some_ (c : Dev nD) (b : Ref sig .tc) : sProp 𝕄 := iprop(∃ f : Buf (Elt F) ((c : Thread nD τ).loc b), ((c : Thread nD τ).loc b) ↦{fullShare} f)

def accs (c : Dev nD) : sProp 𝕄 := bigSep Finset.univ fun k : Fin 4 => bigSep Finset.univ fun q : Fin 4 => accFree c (chunk c k q)

theorem acc_eq (c : Dev nD) : (bigSep Finset.univ fun x : Fin 4 × Fin 4 => iprop(∃ X, at_ (F := F) c (Memref.whole cc0_scratch0) (rC (chunk c x.1 x.2)) (unitC _) X)) = accs c := by
  rw [bigSep_univ_prod]; rfl
theorem cut_acc (c : Dev nD) : (some_ c cc0_scratch0 : sProp 𝕄) ⊢ accs c := by
  unfold some_
  rw [← acc_eq]
  iintro ⟨%f, H⟩
  iapply (cut c cc0_scratch0 (fun x : Fin 4 × Fin 4 => rC (chunk c x.1 x.2)) (fun _ => unitC _) (rC_disjoint c) (rC_cover c) f)
  iexact H
theorem join_acc (c : Dev nD) : accs c ⊢ (some_ c cc0_scratch0 : sProp 𝕄) := by
  rw [← acc_eq]
  exact join c cc0_scratch0 (fun x : Fin 4 × Fin 4 => rC (chunk c x.1 x.2)) (fun _ => unitC _) (rC_disjoint c) (rC_cover c)

/-- The twelve slots of a plane buffer, the six of a ring buffer. -/
def slotsA (c : Dev nD) (b : Memref sig .tc .vmem S12x256x2048 .i8) : sProp 𝕄 := bigSep Finset.univ fun x : IA => freeA c b (ix x.1 x.2)
def slotsB (c : Dev nD) (b : Memref sig .tc .vmem S6x256x1024 .bf16) : sProp 𝕄 := bigSep Finset.univ fun x : IB => freeB c b (ixB x.1 x.2)

theorem cut_stA (c : Dev nD) : (some_ c cc0_scratch1 : sProp 𝕄) ⊢ slotsA c mStA := by
  unfold some_
  iintro ⟨%f, H⟩
  iapply (show (((c : Thread nD τ).loc cc0_scratch1) ↦{fullShare} f : sProp 𝕄) ⊢ slotsA c mStA from cut c cc0_scratch1 (fun x : IA => rA (ix x.1 x.2)) (fun _ => unitA _) rA_disjoint rA_cover f)
  iexact H
theorem join_stA (c : Dev nD) : slotsA c mStA ⊢ (some_ c cc0_scratch1 : sProp 𝕄) :=
  join c cc0_scratch1 (fun x : IA => rA (ix x.1 x.2)) (fun _ => unitA _) rA_disjoint rA_cover
theorem cut_ldA (c : Dev nD) : (some_ c cc0_scratch2 : sProp 𝕄) ⊢ slotsA c mLdA := by
  unfold some_
  iintro ⟨%f, H⟩
  iapply (show (((c : Thread nD τ).loc cc0_scratch2) ↦{fullShare} f : sProp 𝕄) ⊢ slotsA c mLdA from cut c cc0_scratch2 (fun x : IA => rA (ix x.1 x.2)) (fun _ => unitA _) rA_disjoint rA_cover f)
  iexact H
theorem join_ldA (c : Dev nD) : slotsA c mLdA ⊢ (some_ c cc0_scratch2 : sProp 𝕄) :=
  join c cc0_scratch2 (fun x : IA => rA (ix x.1 x.2)) (fun _ => unitA _) rA_disjoint rA_cover
theorem cut_stB (c : Dev nD) : (some_ c cc0_scratch3 : sProp 𝕄) ⊢ slotsB c mStB := by
  unfold some_
  iintro ⟨%f, H⟩
  iapply (show (((c : Thread nD τ).loc cc0_scratch3) ↦{fullShare} f : sProp 𝕄) ⊢ slotsB c mStB from cut c cc0_scratch3 (fun x : IB => rB (ixB x.1 x.2)) (fun _ => unitB _) rB_disjoint rB_cover f)
  iexact H
theorem join_stB (c : Dev nD) : slotsB c mStB ⊢ (some_ c cc0_scratch3 : sProp 𝕄) :=
  join c cc0_scratch3 (fun x : IB => rB (ixB x.1 x.2)) (fun _ => unitB _) rB_disjoint rB_cover
theorem cut_ldB (c : Dev nD) : (some_ c cc0_scratch4 : sProp 𝕄) ⊢ slotsB c mLdB := by
  unfold some_
  iintro ⟨%f, H⟩
  iapply (show (((c : Thread nD τ).loc cc0_scratch4) ↦{fullShare} f : sProp 𝕄) ⊢ slotsB c mLdB from cut c cc0_scratch4 (fun x : IB => rB (ixB x.1 x.2)) (fun _ => unitB _) rB_disjoint rB_cover f)
  iexact H
theorem join_ldB (c : Dev nD) : slotsB c mLdB ⊢ (some_ c cc0_scratch4 : sProp 𝕄) :=
  join c cc0_scratch4 (fun x : IB => rB (ixB x.1 x.2)) (fun _ => unitB _) rB_disjoint rB_cover

/-! ## The result -/

/-- Which half a column is in, and where in it. -/
def hOf (x : S256x2048.Idx) : Fin 2 := ⟨(x 1).val / 1024, by have := (x 1).isLt; simp only [S256x2048] at this; exact (Nat.div_lt_iff_lt_mul (by decide)).mpr this⟩
def jOf (x : S256x2048.Idx) : S256x1024.Idx := fun a => match a with
  | ⟨0, _⟩ => ⟨(x 0).val, (x 0).isLt⟩
  | ⟨1, _⟩ => ⟨(x 1).val % 1024, Nat.mod_lt _ (by decide)⟩
/-- The result block. -/
def outAt (c : Dev nD) : Vec F S256x2048 .f32 := fun x => outH m c (hOf x) (jOf x)

theorem hOf_emb (h : Fin 2) (j : S256x1024.Idx) : hOf ((rO h).emb j) = h := by
  have h1 : (j 1).val < 1024 := (j 1).isLt
  exact Fin.ext (by
    show (1024 * h.val + 1 * (j 1).val) / 1024 = h.val
    omega)
theorem jOf_emb (h : Fin 2) (j : S256x1024.Idx) : jOf ((rO h).emb j) = j := by
  have h1 : (j 1).val < 1024 := (j 1).isLt
  funext a
  fin_cases a
  · exact Fin.ext (by show 0 + 1 * (j 0).val = (j 0).val; omega)
  · exact Fin.ext (by show (1024 * h.val + 1 * (j 1).val) % 1024 = (j 1).val; omega)
theorem outAt_emb (c : Dev nD) (h : Fin 2) : (fun j => outAt m c ((rO h).emb j)) = outH m c h :=
  funext fun j => by unfold outAt; rw [hOf_emb, jOf_emb]

theorem cut_out (c : Dev nD) (f : Buf (Elt F) ((c : Thread nD τ).loc cc0_stg4_0)) :
    (((c : Thread nD τ).loc cc0_stg4_0) ↦{fullShare} f : sProp 𝕄) ⊢ iprop(outFree c 0 ∗ outFree c 1) := by
  refine (cut c cc0_stg4_0 (fun h : Fin 2 => rO h) (fun _ _ => rfl) rO_disjoint rO_cover f).trans ?_
  rw [bigSep_univ_two]; exact .rfl
theorem join_out (c : Dev nD) : iprop(outDone m c 0 ∗ outDone m c 1) ⊢ (((c : Thread nD τ).loc cc0_stg4_0) ↦{fullShare} (outAt m c) : sProp 𝕄) := by
  rw [← owns_whole (c : Thread nD τ) cc0_stg4_0 fullShare (outAt m c)]
  refine .trans ?_ (owns_of_rects (c : Thread nD τ) (Memref.whole cc0_stg4_0) fullShare (fun h : Fin 2 => rO h) (fun _ _ => rfl) rO_disjoint rO_cover (outAt m c))
  rw [bigSep_univ_two]
  simp only [outAt_emb]
  exact .rfl

/-! ## The entry barrier's payments -/

theorem bigSepA (Φ : IA → sProp 𝕄) : bigSep Finset.univ Φ
    = iprop((bigSep Finset.univ fun k : Fin 4 => Φ (0, k)) ∗ (bigSep Finset.univ fun k : Fin 4 => Φ (1, k)) ∗ (bigSep Finset.univ fun k : Fin 4 => Φ (2, k))) := by
  rw [bigSep_univ_prod, bigSep3]
theorem bigSepA' (Φ : IA → sProp 𝕄) : bigSep Finset.univ Φ = bigSep Finset.univ fun k : Fin 4 => bigSep Finset.univ fun p : Fin 3 => Φ (p, k) := by
  rw [bigSep_univ_prod, bigSep_univ_comm]
theorem bigSepB (Φ : IB → sProp 𝕄) : bigSep Finset.univ Φ = iprop((Φ (0, 0) ∗ Φ (0, 1)) ∗ (Φ (1, 0) ∗ Φ (1, 1)) ∗ (Φ (2, 0) ∗ Φ (2, 1))) := by
  rw [bigSep_univ_prod, bigSep3, bigSep_univ_two, bigSep_univ_two, bigSep_univ_two]

/-- A device's landing slots, as the payments of its five signals. -/
theorem pay_give (c : Dev nD) : iprop(slotsA c mLdA ∗ slotsB c mLdB) ⊢ bigSep Finset.univ fun j : Fin 5 => pay m (bar j c) cBar j := by
  unfold slotsA
  rw [bigSep5, bigSepA]
  iintro ⟨⟨H0, H1, H2⟩, H3⟩
  isplitl [H0]
  · rw [show pay m (bar 0 c) cBar 0 = bigSep Finset.univ fun k : Fin 4 => freeA (F := F) c mLdA (ix 0 k) from by
      show (bigSep Finset.univ fun k : Fin 4 => freeA (F := F) (pl (pl c 0) 2) mLdA (ix 0 k)) = _
      rw [show pl (pl c 0) 2 = c from pl_pl c 0]]
    iexact H0
  isplitl [H1]
  · rw [show pay m (bar 1 c) cBar 1 = bigSep Finset.univ fun k : Fin 4 => freeA (F := F) c mLdA (ix 1 k) from by
      show (bigSep Finset.univ fun k : Fin 4 => freeA (F := F) (pl (pl c 1) 1) mLdA (ix 1 k)) = _
      rw [show pl (pl c 1) 1 = c from pl_pl c 1]]
    iexact H1
  isplitl [H2]
  · rw [show pay m (bar 2 c) cBar 2 = bigSep Finset.univ fun k : Fin 4 => freeA (F := F) c mLdA (ix 2 k) from by
      show (bigSep Finset.univ fun k : Fin 4 => freeA (F := F) (pl (pl c 2) 0) mLdA (ix 2 k)) = _
      rw [show pl (pl c 2) 0 = c from pl_pl c 2]]
    iexact H2
  isplitl [H3]
  · rw [show pay m (bar 3 c) cBar 3 = slotsB (F := F) c mLdB from by
      show (bigSep Finset.univ fun x : IB => freeB (F := F) (zr (zl c)) mLdB (ixB x.1 x.2)) = _
      rw [zr_zl]; rfl]
    iexact H3
  · iapply (show (iprop(emp) : sProp 𝕄) ⊢ pay m (bar 4 c) cBar 4 from .rfl)
    iempintro

/-- What the five signals hand a device: the landing slots it copies to. -/
theorem pay_take (c : Dev nD) : bigSep Finset.univ (pay m c cBar)
    ⊢ iprop((bigSep Finset.univ fun x : IA => freeA (pl c x.1) mLdA (ix (rev x.1) x.2)) ∗ slotsB (zr c) mLdB) := by
  rw [bigSep5, bigSepA,
    show pay m c cBar 0 = (bigSep Finset.univ fun k : Fin 4 => freeA (F := F) (pl c 2) mLdA (ix (rev 2) k)) from rfl,
    show pay m c cBar 1 = (bigSep Finset.univ fun k : Fin 4 => freeA (F := F) (pl c 1) mLdA (ix (rev 1) k)) from rfl,
    show pay m c cBar 2 = (bigSep Finset.univ fun k : Fin 4 => freeA (F := F) (pl c 0) mLdA (ix (rev 0) k)) from rfl,
    show pay m c cBar 3 = slotsB (F := F) (zr c) mLdB from rfl]
  iintro ⟨H0, H1, H2, H3, -⟩
  isplitr [H3]
  · isplitl [H2]; · iexact H2
    isplitl [H1]; · iexact H1
    iexact H0
  iexact H3

end Cert.Scatter

end
-- ==== Proof.Body.lean ====
/-
The body of a device, from what the launch deals it to its result.
-/
module

public import proofs.«01_k».proof.Proof.Pieces

@[expose] public section

set_option maxRecDepth 20000

noncomputable section

namespace Cert.Scatter

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × Cell → ℕ)

/-! ## What a device starts from -/

/-- The rights of the plane's copies, of the ring's; the waits for what arrives. -/
def goA (c : Dev nD) : sProp 𝕄 :=
  bigSep Finset.univ fun x : IA => iprop(tok c (cSA x) 0 ∗ tok (pl c x.1) (cRA (rev x.1, x.2)) 0 ∗ atPos ER (kcell (c, cSA x)) 0 ∅ 0)
def goB (c : Dev nD) : sProp 𝕄 :=
  bigSep Finset.univ fun x : IB => iprop(tok c (cSB x) 0 ∗ tok (zr c) (cRB x) 0 ∗ atPos ER (kcell (c, cSB x)) 0 ∅ 0)
def dueRA (c : Dev nD) : sProp 𝕄 := bigSep Finset.univ fun x : IA => due c (cRA x)
def dueRB (c : Dev nD) : sProp 𝕄 := bigSep Finset.univ fun x : IB => due c (cRB x)
def goS (c : Dev nD) : sProp 𝕄 := bigSep Finset.univ fun j : Fin 5 => tok (bar j c) cBar j

/-- All of it. -/
def deal (c : Dev nD) : sProp 𝕄 := iprop(due c cBar ∗ goS c ∗ goA c ∗ goB c ∗ dueRA c ∗ dueRB c)
def start (c : Dev nD) : sProp 𝕄 := iprop(∃ K, env m K ∗ deal c)

/-- The five scratch buffers. -/
def scratch (c : Dev nD) : sProp 𝕄 :=
  iprop(some_ c cc0_scratch0 ∗ some_ c cc0_scratch1 ∗ some_ c cc0_scratch2 ∗ some_ c cc0_scratch3 ∗ some_ c cc0_scratch4)
/-- The kernel's own semaphores done with. -/
def doneOwn (c : Dev nD) : sProp 𝕄 := bigSep Finset.univ fun i : Own => done c (.inr i)

/-! ## Regrouping -/

theorem fin4_split (Φ : Fin 4 → sProp 𝕄) : bigSep Finset.univ Φ = iprop((bigSep Finset.univ fun p : Fin 3 => Φ p.succ) ∗ Φ 0) := by
  rw [bigSep4, bigSep3]
  exact equiv_iff.mp ⟨BI.sep_comm, BI.sep_comm⟩

theorem todoA_intro (c : Dev nD) :
    iprop(slotsA c mStA ∗ (bigSep Finset.univ fun x : IA => freeA (pl c x.1) mLdA (ix (rev x.1) x.2)) ∗ goA c)
      ⊢ (bigSep Finset.univ fun k : Fin 4 => bigSep Finset.univ fun p : Fin 3 => todoA c p k : sProp 𝕄) := by
  rw [← bigSepA' fun x : IA => todoA c x.1 x.2]
  unfold slotsA goA
  rw [← bigSep_sep', ← bigSep_sep']
  exact BI.Entails.refl _

theorem todoB_intro (c : Dev nD) : iprop(slotsB c mStB ∗ slotsB (zr c) mLdB ∗ goB c)
      ⊢ (iprop((todoB c 0 0 ∗ todoB c 0 1) ∗ (todoB c 1 0 ∗ todoB c 1 1) ∗ (todoB c 2 0 ∗ todoB c 2 1)) : sProp 𝕄) := by
  rw [← bigSepB fun x : IB => todoB c x.1 x.2]
  unfold slotsB goB
  rw [← bigSep_sep', ← bigSep_sep']
  exact BI.Entails.refl _

theorem rounds_intro (c : Dev nD) :
    iprop(accs c ∗ bigSep Finset.univ fun k : Fin 4 => bigSep Finset.univ fun p : Fin 3 => todoA c p k) ⊢ (bigSep Finset.univ (roundPre (F := F) c)) := by
  unfold accs
  rw [← bigSep_sep']
  refine bigSep_mono fun k _ => ?_
  refine (show (iprop((bigSep Finset.univ fun q : Fin 4 => accFree c (chunk c k q)) ∗ bigSep Finset.univ fun p : Fin 3 => todoA c p k) : sProp 𝕄) ⊢ roundPre c k from ?_)
  unfold roundPre
  rw [fin4_split, bigSep_sep']
  iintro ⟨⟨H, H0⟩, HT⟩
  isplitr [H0]
  · isplitl [H]; · iexact H
    iexact HT
  iexact H0

/-- The chunks computed for others. -/
def accRest (c : Dev nD) : sProp 𝕄 := bigSep Finset.univ fun k : Fin 4 => bigSep Finset.univ fun p : Fin 3 => accFree c (chunk c k p.succ)

theorem rounds_elim (c : Dev nD) : bigSep Finset.univ (roundPost m c)
    ⊢ iprop(accRest c ∗ (bigSep Finset.univ fun k : Fin 4 => bigSep Finset.univ fun p : Fin 3 => due c (cSA (p, k)))
        ∗ (accAt c (chunk c 0 0) (part m c (chunk c 0 0)) ∗ accAt c (chunk c 1 0) (part m c (chunk c 1 0)) ∗ accAt c (chunk c 2 0) (part m c (chunk c 2 0))
            ∗ accAt c (chunk c 3 0) (part m c (chunk c 3 0)))) := by
  unfold accRest
  rw [← bigSep4 fun k : Fin 4 => accAt c (chunk c k 0) (part m c (chunk c k 0)), ← bigSep_sep', ← bigSep_sep']
  refine bigSep_mono fun k _ => ?_
  refine (show roundPost m c k ⊢ iprop((bigSep Finset.univ fun p : Fin 3 => accFree c (chunk c k p.succ)) ∗ (bigSep Finset.univ fun p : Fin 3 => due c (cSA (p, k)))
    ∗ accAt c (chunk c k 0) (part m c (chunk c k 0))) from ?_)
  unfold roundPost
  rw [bigSep_sep']
  iintro ⟨⟨H, HT⟩, H0⟩
  isplitl [H]; · iexact H
  isplitl [HT]; · iexact HT
  iexact H0

theorem acc_back (c : Dev nD) {X0 X1 X2 X3 : Vec F S256x2048 .f32} :
    iprop(accRest c ∗ accAt c (chunk c 0 0) X0 ∗ accAt c (chunk c 1 0) X1 ∗ accAt c (chunk c 2 0) X2 ∗ accAt c (chunk c 3 0) X3) ⊢ some_ c cc0_scratch0 := by
  refine .trans ?_ (join_acc c)
  unfold accRest accs
  rw [show (bigSep Finset.univ fun k : Fin 4 => bigSep Finset.univ fun q : Fin 4 => accFree (F := F) c (chunk c k q))
    = iprop((bigSep Finset.univ fun k : Fin 4 => bigSep Finset.univ fun p : Fin 3 => accFree (F := F) c (chunk c k p.succ)) ∗ bigSep Finset.univ fun k : Fin 4 => accFree c (chunk c k 0)) from by
      rw [← bigSep_sep']; exact bigSep_congr fun k _ => fin4_split _, bigSep4 fun k : Fin 4 => accFree (F := F) c (chunk c k 0)]
  iintro ⟨H, H0, H1, H2, H3⟩
  isplitl [H]; · iexact H
  isplitl [H0]; · iapply (accAt_free c (chunk c 0 0) X0); iexact H0
  isplitl [H1]; · iapply (accAt_free c (chunk c 1 0) X1); iexact H1
  isplitl [H2]; · iapply (accAt_free c (chunk c 2 0) X2); iexact H2
  iapply (accAt_free c (chunk c 3 0) X3); iexact H3

theorem coming_intro (c : Dev nD) : dueRA c ⊢ (iprop(comingA c 0 ∗ comingA c 1 ∗ comingA c 2 ∗ comingA c 3) : sProp 𝕄) := by
  unfold dueRA
  rw [bigSepA', bigSep4]
  exact BI.Entails.refl _

theorem comingB_intro (c : Dev nD) : dueRB c
    ⊢ (iprop((due c (cRB (0, 0)) ∗ due c (cRB (0, 1))) ∗ (due c (cRB (1, 0)) ∗ due c (cRB (1, 1))) ∗ (due c (cRB (2, 0)) ∗ due c (cRB (2, 1)))) : sProp 𝕄) := by
  unfold dueRB
  rw [bigSepB]

theorem out_intro (c : Dev nD) : some_ c cc0_stg4_0 ⊢ (iprop(outFree c 0 ∗ outFree c 1) : sProp 𝕄) := by
  unfold some_
  iintro ⟨%f, H⟩
  iapply (cut_out c f); iexact H

theorem gotAt_free (c : Dev nD) (p : Fin 3) (k : Fin 4) : gotAt m c p k ⊢ freeA c mLdA (ix p k) := by
  unfold gotAt freeA; iintro H; iexists _; iexact H
theorem cameAt_free (c : Dev nD) (s : Fin 3) (h : Fin 2) : cameAt m c s h ⊢ freeB c mLdB (ixB s h) := by
  unfold cameAt freeB; iintro H; iexists _; iexact H

theorem landedA_back (c : Dev nD) (k : Fin 4) : landedA m c k
    ⊢ (bigSep Finset.univ fun p : Fin 3 => iprop(done c (cRA (p, k)) ∗ freeA c mLdA (ix p k))) := by
  unfold landedA
  rw [bigSep_sep', bigSep3 fun p : Fin 3 => freeA (F := F) c mLdA (ix p k)]
  iintro ⟨H, G0, G1, G2⟩
  isplitl [H]; · iexact H
  isplitl [G0]; · iapply (gotAt_free m c 0 k); iexact G0
  isplitl [G1]; · iapply (gotAt_free m c 1 k); iexact G1
  iapply (gotAt_free m c 2 k); iexact G2

theorem landed_back (c : Dev nD) : iprop(landedA m c 0 ∗ landedA m c 1 ∗ landedA m c 2 ∗ landedA m c 3)
    ⊢ iprop((bigSep Finset.univ fun x : IA => done c (cRA x)) ∗ some_ c cc0_scratch2) := by
  rw [← bigSep4 (landedA m c)]
  refine (bigSep_mono fun k _ => landedA_back m c k).trans ?_
  refine .trans ?_ (sep_mono_right (join_ldA c))
  unfold slotsA
  rw [← bigSepA' fun x : IA => iprop(done (F := F) c (cRA x) ∗ freeA c mLdA (ix x.1 x.2)), ← bigSep_sep']
  exact BI.Entails.refl _

theorem sent_back (c : Dev nD) : bigSep Finset.univ (sentPost c)
    ⊢ (iprop((bigSep Finset.univ fun x : IA => done c (cSA x)) ∗ some_ c cc0_scratch1) : sProp 𝕄) := by
  refine .trans ?_ (sep_mono_right (join_stA c))
  unfold slotsA sentPost
  rw [← bigSepA' fun x : IA => iprop(done (F := F) c (cSA x) ∗ freeA c mStA (ix x.1 x.2)), ← bigSep_sep']

theorem sentB_back (c : Dev nD) : iprop((sentB1 c 0 0 ∗ sentB1 c 0 1) ∗ (sentB1 c 1 0 ∗ sentB1 c 1 1) ∗ (sentB1 c 2 0 ∗ sentB1 c 2 1))
    ⊢ (iprop((bigSep Finset.univ fun x : IB => done c (cSB x)) ∗ some_ c cc0_scratch3) : sProp 𝕄) := by
  refine .trans ?_ (sep_mono_right (join_stB c))
  unfold slotsB
  rw [← bigSepB fun x : IB => sentB1 (F := F) c x.1 x.2, ← bigSep_sep']
  exact BI.Entails.refl _

theorem landedB_back (c : Dev nD) : iprop((landedB m c 0 0 ∗ landedB m c 0 1) ∗ (landedB m c 1 0 ∗ landedB m c 1 1) ∗ (landedB m c 2 0 ∗ landedB m c 2 1))
    ⊢ iprop((bigSep Finset.univ fun x : IB => done c (cRB x)) ∗ some_ c cc0_scratch4) := by
  refine .trans ?_ (sep_mono_right (join_ldB c))
  unfold slotsB
  rw [← bigSepB fun x : IB => landedB m c x.1 x.2, ← bigSep_sep']
  refine bigSep_mono fun x _ => ?_
  refine (show landedB m c x.1 x.2 ⊢ iprop(done c (cRB x) ∗ freeB c mLdB (ixB x.1 x.2)) from ?_)
  unfold landedB
  exact sep_mono_right (cameAt_free m c x.1 x.2)

theorem doneOwn_intro (c : Dev nD) : iprop((bigSep Finset.univ fun x : IA => done c (cSA x)) ∗ (bigSep Finset.univ fun x : IA => done c (cRA x))
      ∗ (bigSep Finset.univ fun x : IB => done c (cSB x)) ∗ (bigSep Finset.univ fun x : IB => done c (cRB x))) ⊢ (doneOwn c : sProp 𝕄) := by
  unfold doneOwn
  rw [show (bigSep Finset.univ fun i : Own => done (F := F) c (.inr i)) = iprop(((bigSep Finset.univ fun x : IA => done c (cSA x)) ∗ (bigSep Finset.univ fun x : IA => done c (cRA x)))
      ∗ (bigSep Finset.univ fun x : IB => done c (cSB x)) ∗ (bigSep Finset.univ fun x : IB => done c (cRB x))) from by
    rw [bigSep_univ_sum, bigSep_univ_sum, bigSep_univ_sum]; rfl]
  iintro ⟨H0, H1, H2, H3⟩
  isplitl [H0 H1]
  · isplitl [H0]; · iexact H0
    iexact H1
  isplitl [H2]; · iexact H2
  iexact H3

/-! ## The body -/

/-- The five staged buffers before the body. -/
def staged (c : Dev nD) : sProp 𝕄 := iprop(xs m c ∗ ws m c ∗ sxs m c ∗ sws m c)

theorem signals_intro (c : Dev nD) : iprop(goS c ∗ slotsA c mLdA ∗ slotsB c mLdB)
    ⊢ bigSep Finset.univ fun j : Fin 5 => iprop(tok (bar j c) cBar j ∗ pay m (bar j c) cBar j) := by
  unfold goS
  rw [bigSep_sep']
  exact sep_mono_right (pay_give m c)

set_option maxHeartbeats 1000000 in
theorem wp_body {c : Dev nD} {Q : PUnit → sProp 𝕄} :
    iprop(env m K ∗ deal c ∗ scratch c ∗ owing c dues ∗ staged m c ∗ some_ c cc0_stg4_0)
      ⊢ iprop(((scratch c ∗ doneOwn c ∗ done c cBar ∗ owing c [] ∗ staged m c ∗ (((c : Thread nD τ).loc cc0_stg4_0) ↦{fullShare} (outAt m c))) -∗ Q ⟨⟩)
          -∗ wpB c body Q) := by
  unfold deal scratch staged
  iintro ⟨#He, ⟨DB, GS, GA, GB, RA, RB⟩, ⟨C0, C1, C2, C3, C4⟩, HO, ⟨Hx, Hw, Hsx, Hsw⟩, Hout⟩ Hk
  ihave C0 := (cut_acc (F := F) c) $$ C0
  ihave C1 := (cut_stA (F := F) c) $$ C1
  ihave C2 := (cut_ldA (F := F) c) $$ C2
  ihave C3 := (cut_stB (F := F) c) $$ C3
  ihave C4 := (cut_ldB (F := F) c) $$ C4
  ihave GS := (signals_intro m c) $$ [GS C2 C4]
  · isplitl [GS]; · iexact GS
    isplitl [C2]; · iexact C2
    iexact C4
  unfold body
  simp only [Prog.lift, Prog.bind_op, Prog.bind_ret, wp_deviceId]
  iapply (wpB_step (wp_barrier m K (es := duesA 0 ++ (duesA 1 ++ (duesA 2 ++ (duesA 3 ++ (duesB 0 ++ (duesB 1 ++ duesB 2)))))) (by decide))) $$ [HO GS DB]
  · isplitr; · iexact He
    isplitl [HO]; · iexact HO
    isplitl [GS]; · iexact GS
    iexact DB
  iintro ⟨HO, DB, HP⟩
  ihave HP := (pay_take m c) $$ HP
  icases HP with ⟨PA, PB⟩
  ihave TA := (todoA_intro (F := F) c) $$ [C1 PA GA]
  · isplitl [C1]; · iexact C1
    isplitl [PA]; · iexact PA
    iexact GA
  ihave TB := (todoB_intro (F := F) c) $$ [C3 PB GB]
  · isplitl [C3]; · iexact C3
    isplitl [PB]; · iexact PB
    iexact GB
  ihave R := (rounds_intro (F := F) c) $$ [C0 TA]
  · isplitl [C0]; · iexact C0
    iexact TA
  iapply (wpB_step (wp_loadW m)) $$ Hw
  iintro Hw
  iapply (wpB_step (wp_phaseA m K (es := duesB 0 ++ (duesB 1 ++ duesB 2)))) $$ [HO Hx R]
  · isplitr; · iexact He
    isplitl [HO]; · iexact HO
    isplitl [Hx]; · iexact Hx
    iexact R
  iintro ⟨HO, Hx, R⟩
  ihave R := (rounds_elim m c) $$ R
  icases R with ⟨AR, SA, A0, A1, A2, A3⟩
  ihave RA := (coming_intro (F := F) c) $$ RA
  icases RA with ⟨RA0, RA1, RA2, RA3⟩
  ihave RB := (comingB_intro (F := F) c) $$ RB
  icases RB with ⟨⟨V00, V01⟩, ⟨V10, V11⟩, ⟨V20, V21⟩⟩
  icases TB with ⟨⟨T00, T01⟩, ⟨T10, T11⟩, ⟨T20, T21⟩⟩
  iapply (wpB_step (wp_phaseB m K)) $$ [HO RA0 RA1 RA2 A0 A1 A2 T00 T01 T10 T11 T20 T21 V00 V01 V10 V11]
  · isplitr; · iexact He
    isplitl [HO]; · iexact HO
    isplitl [RA0 RA1 RA2]
    · isplitl [RA0]; · iexact RA0
      isplitl [RA1]; · iexact RA1
      iexact RA2
    isplitl [A0 A1 A2]
    · isplitl [A0]; · iexact A0
      isplitl [A1]; · iexact A1
      iexact A2
    isplitl [T00 T01 T10 T11 T20 T21]
    · isplitl [T00]; · iexact T00
      isplitl [T01]; · iexact T01
      isplitl [T10]; · iexact T10
      isplitl [T11]; · iexact T11
      isplitl [T20]; · iexact T20
      iexact T21
    isplitl [V00]; · iexact V00
    isplitl [V01]; · iexact V01
    isplitl [V10]; · iexact V10
    iexact V11
  iintro ⟨HO, ⟨RA0, RA1, RA2⟩, ⟨A0, A1, A2⟩, ⟨T00, T01, T10, T11, T20, T21⟩, ⟨V00, V01, V10, V11⟩⟩
  ihave Hout := (out_intro (F := F) c) $$ Hout
  iapply (wpB_step (wp_phaseC m K)) $$ [HO RA3 A3 Hsx Hsw V20 V21 Hout]
  · isplitr; · iexact He
    isplitl [HO]; · iexact HO
    isplitl [RA3]; · iexact RA3
    isplitl [A3]; · iexact A3
    isplitl [Hsx Hsw]
    · isplitl [Hsx]; · iexact Hsx
      iexact Hsw
    isplitl [V20 V21]
    · isplitl [V20]; · iexact V20
      iexact V21
    iexact Hout
  iintro ⟨HO, RA3, A3, ⟨Hsx, Hsw⟩, ⟨V20, V21⟩, Hout⟩
  iapply (wp_drain m K) $$ [HO SA T00 T01 T10 T11 T20 T21]
  · isplitr; · iexact He
    isplitl [HO]; · iexact HO
    isplitl [SA]; · iexact SA
    isplitl [T00]; · iexact T00
    isplitl [T01]; · iexact T01
    isplitl [T10]; · iexact T10
    isplitl [T11]; · iexact T11
    isplitl [T20]; · iexact T20
    iexact T21
  iintro ⟨HO, SA, ⟨T00, T01, T10, T11, T20, T21⟩⟩
  ihave HA := (sent_back (F := F) c) $$ SA
  icases HA with ⟨D0, C1⟩
  ihave HA := (landed_back m c) $$ [RA0 RA1 RA2 RA3]
  · isplitl [RA0]; · iexact RA0
    isplitl [RA1]; · iexact RA1
    isplitl [RA2]; · iexact RA2
    iexact RA3
  icases HA with ⟨D1, C2⟩
  ihave HA := (sentB_back (F := F) c) $$ [T00 T01 T10 T11 T20 T21]
  · isplitl [T00 T01]
    · isplitl [T00]; · iexact T00
      iexact T01
    isplitl [T10 T11]
    · isplitl [T10]; · iexact T10
      iexact T11
    isplitl [T20]; · iexact T20
    iexact T21
  icases HA with ⟨D2, C3⟩
  ihave HA := (landedB_back m c) $$ [V00 V01 V10 V11 V20 V21]
  · isplitl [V00 V01]
    · isplitl [V00]; · iexact V00
      iexact V01
    isplitl [V10 V11]
    · isplitl [V10]; · iexact V10
      iexact V11
    isplitl [V20]; · iexact V20
    iexact V21
  icases HA with ⟨D3, C4⟩
  ihave C0 := (acc_back (F := F) c) $$ [AR A0 A1 A2 A3]
  · isplitl [AR]; · iexact AR
    isplitl [A0]; · iexact A0
    isplitl [A1]; · iexact A1
    isplitl [A2]; · iexact A2
    iexact A3
  ihave D := (doneOwn_intro (F := F) c) $$ [D0 D1 D2 D3]
  · isplitl [D0]; · iexact D0
    isplitl [D1]; · iexact D1
    isplitl [D2]; · iexact D2
    iexact D3
  ihave Hout := (join_out m c) $$ Hout
  iapply Hk
  isplitl [C0 C1 C2 C3 C4]
  · isplitl [C0]; · iexact C0
    isplitl [C1]; · iexact C1
    isplitl [C2]; · iexact C2
    isplitl [C3]; · iexact C3
    iexact C4
  isplitl [D]; · iexact D
  isplitl [DB]; · iexact DB
  isplitl [HO]; · iexact HO
  isplitr [Hout]
  · isplitl [Hx]; · iexact Hx
    isplitl [Hw]; · iexact Hw
    isplitl [Hsx]; · iexact Hsx
    iexact Hsw
  iexact Hout

end Cert.Scatter

end
-- ==== Proof.Launch.lean ====
/-
The launch of the kernel's one pipeline of one point: its data, the body's obligation, the semaphores and rights dealt out, and the run.
-/
module

public import proofs.«01_k».proof.Proof.Body
public import Idealize.ShloMosaic.Lib.Pipeline.Launch
public import Idealize.ShloMosaic.Lib.Pipeline.Kit
public import Idealize.ShloMosaic.Lib.Pipeline.CollectiveSegs

@[expose] public section

set_option maxRecDepth 20000

noncomputable section

namespace Cert.Scatter

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The memory at launch. -/
def s₀ : MemSt nD τ sig (Elt F) := ⟨m, fun _ => 0, ρ⟩

/-! ## The pipeline's data -/

/-- Before the body: what it starts from, and the scratch buffers. After: the scratch buffers and every semaphore at zero. -/
def Φ₀ (c : Dev nD) : sProp 𝕄 := iprop(start m c ∗ scratch c)
def Φ₁ (c : Dev nD) : sProp 𝕄 := iprop(scratch c ∗ doneOwn c ∗ done c cBar)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xB m c
    | ⟨1, _⟩ => wB m c
    | ⟨2, _⟩ => sxB m c
    | ⟨3, _⟩ => swB m c
    | ⟨4, _⟩ => outAt m c
  Φ t := match t with
    | ⟨0, _⟩ => Φ₀ m c
    | ⟨_ + 1, _⟩ => Φ₁ c
  q _ := fullShare
  owed t := match t with
    | ⟨0, _⟩ => rem c dues
    | ⟨_ + 1, _⟩ => 0

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- A staging buffer at given contents. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-- What the pipeline hands the body, and what it wants back. -/
def bodyPre (c : Dev nD) : sProp 𝕄 :=
  iprop(Φ₀ m c ∗ (dats m ρ 0 c).owesAt () t0_0.castSucc
    ∗ (∃ d, stg c cc0_stg0_0 ((dats m ρ 0 c).before (0 : Fin 5) t0_0 d))
    ∗ (∃ d, stg c cc0_stg1_0 ((dats m ρ 0 c).before (1 : Fin 5) t0_0 d))
    ∗ (∃ d, stg c cc0_stg2_0 ((dats m ρ 0 c).before (2 : Fin 5) t0_0 d))
    ∗ (∃ d, stg c cc0_stg3_0 ((dats m ρ 0 c).before (3 : Fin 5) t0_0 d))
    ∗ (∃ d, stg c cc0_stg4_0 ((dats m ρ 0 c).before (4 : Fin 5) t0_0 d)))
def bodyPost (c : Dev nD) : sProp 𝕄 :=
  iprop(Φ₁ c ∗ (dats m ρ 0 c).owesAt () t0_0.succ ∗ stg c cc0_stg0_0 (xB m c) ∗ stg c cc0_stg1_0 (wB m c)
    ∗ stg c cc0_stg2_0 (sxB m c) ∗ stg c cc0_stg3_0 (swB m c) ∗ stg c cc0_stg4_0 (outAt m c))

theorem sound_body (c : Dev nD) : bodyPre m ρ c ⊢ wpB c (bodyAt0 t0_0 : Pr F PUnit) (fun _ => bodyPost m ρ c) := by
  rw [body_eq]
  unfold bodyPre Φ₀ start
  iintro ⟨⟨⟨%K, #He, Hdeal⟩, Hscr⟩, Ho, ⟨%d0, %g0, %hg0, H0⟩, ⟨%d1, %g1, %hg1, H1⟩, ⟨%d2, %g2, %hg2, H2⟩, ⟨%d3, %g3, %hg3, H3⟩, ⟨%d4, %g4, -, H4⟩⟩
  have h0 : g0 = xB m c := by rw [hg0]; unfold Dat.before; rw [if_pos (fetch0_0 t0_0)]; rfl
  have h1 : g1 = wB m c := by rw [hg1]; unfold Dat.before; rw [if_pos (fetch0_1 t0_0)]; rfl
  have h2 : g2 = sxB m c := by rw [hg2]; unfold Dat.before; rw [if_pos (fetch0_2 t0_0)]; rfl
  have h3 : g3 = swB m c := by rw [hg3]; unfold Dat.before; rw [if_pos (fetch0_3 t0_0)]; rfl
  subst h0 h1 h2 h3
  unfold Dat.owesAt Pipeline.owesWithin
  icases Ho with ⟨%W, %hW, HO⟩
  rw [show (dats m ρ 0 c).owed t0_0.castSucc = rem c dues from rfl]
  iapply (wp_body m K) $$ [Hdeal Hscr HO H0 H1 H2 H3 H4]
  · isplitr; · iexact He
    isplitl [Hdeal]; · iexact Hdeal
    isplitl [Hscr]; · iexact Hscr
    isplitl [HO]
    · unfold owing; iexists W; iexact HO
    isplitr [H4]
    · unfold staged xs ws sxs sws
      isplitl [H0]; · iexact H0
      isplitl [H1]; · iexact H1
      isplitl [H2]; · iexact H2
      iexact H3
    unfold some_; iexists g4; iexact H4
  unfold staged xs ws sxs sws owing
  iintro ⟨Hscr, Hown, Hbar, ⟨%W', HO⟩, ⟨H0, H1, H2, H3⟩, H4⟩
  unfold bodyPost Φ₁ Dat.owesAt Pipeline.owesWithin
  rw [show (dats m ρ 0 c).owed t0_0.succ = rem c [] from rfl]
  isplitl [Hscr Hown Hbar]
  · isplitl [Hscr]; · iexact Hscr
    isplitl [Hown]; · iexact Hown
    iexact Hbar
  isplitl [HO]
  · iexists W'
    isplitr; · ipureintro; exact fun _ _ => Or.inl trivial
    iexact HO
  isplitl [H0]
  · iexists _; isplitr; · (ipureintro; rfl)
    iexact H0
  isplitl [H1]
  · iexists _; isplitr; · (ipureintro; rfl)
    iexact H1
  isplitl [H2]
  · iexists _; isplitr; · (ipureintro; rfl)
    iexact H2
  isplitl [H3]
  · iexists _; isplitr; · (ipureintro; rfl)
    iexact H3
  iexists _; isplitr; · (ipureintro; rfl)
  iexact H4

theorem body_obligation (c : Dev nD) : BodyObligation (dats (F := F) m ρ 0 c) (defs₀ (F := F)) 𝒱₀ () Set.univ := fun t => by
  rw [fin_N0 t]
  rw [bigSep_W0, bigSep_W0]
  simp only [owns_whole_eq]
  exact sound_body m ρ c

/-! ## The semaphores at launch -/

theorem ownSemFacts : Pipeline.OwnSemFacts cfg0.spec osem := by decide +kernel
theorem share_eq (c : Dev nD) (w : Fin cfg0.W) : (dats m ρ 0 c).share w = fullShare := by unfold Dat.share; split <;> rfl

/-- Every semaphore of every device, and every payment's right: of a device's barrier five, of its others one. -/
def allCells : Finset (GSem nD τ sig) := Finset.univ.map ⟨kcell, kcell_injective⟩
abbrev Tok : Type := Fin 5 ⊕ Own
def tokOf (ct : Dev nD × Tok) : GSem nD τ sig × ℕ × Fin 5 := match ct.2 with
  | .inl d => (kcell (ct.1, cBar), 0, d)
  | .inr i => (kcell (ct.1, .inr i), 0, 0)
theorem tokOf_injective : Function.Injective tokOf := by
  rintro ⟨c, t⟩ ⟨c', t'⟩ h
  have hk := congrArg Prod.fst h
  have hd := congrArg (fun x : GSem nD τ sig × ℕ × Fin 5 => x.2.2) h
  rcases t with d | i <;> rcases t' with d' | i'
  · have this : (c, _) = (c', _) := kcell_injective hk
    exact Prod.ext (show c = c' from congrArg Prod.fst this) (congrArg Sum.inl hd)
  · exact absurd (congrArg Prod.snd (kcell_injective hk)) (by simp)
  · exact absurd (congrArg Prod.snd (kcell_injective hk)) (by simp)
  · have this : (c, _) = (c', _) := kcell_injective hk
    exact Prod.ext (show c = c' from congrArg Prod.fst this) (congrArg Sum.inr (Sum.inr_injective (congrArg Prod.snd this)))
def allToks : Finset (GSem nD τ sig × ℕ × Fin 5) := Finset.univ.map ⟨tokOf, tokOf_injective⟩

def u₀ : UU := (initOf (Pipeline.cells cfgs cellOf_inj) (Pipeline.launchToks cfgs cellOf_inj), initOf allCells allToks)

/-- The rights to pay a device's own semaphores. -/
def toks (c : Dev nD) : sProp 𝕄 := iprop((bigSep Finset.univ fun d : Fin 5 => tok c cBar d) ∗ bigSep Finset.univ fun i : Own => tok c (.inr i) 0)
/-- What the launch deals a device, before the rights are passed to those who pay. -/
def G (c : Dev nD) : sProp 𝕄 :=
  iprop((bigSep Finset.univ fun i : Cell => roundState ER (Rd m) (kcell (c, i)) 0)
    ∗ (bigSep Finset.univ fun i : Cell => iprop(atPos ER (kcell (c, i)) 0 ∅ 0 ∗ reached ER (kcell (c, i)) 0)) ∗ toks c)

theorem fund_all : BI.own (ER (initOf allCells allToks)) ⊢ (|==> bigSep Finset.univ (G m) : sProp 𝕄) := by
  have hX (Φ : GSem nD τ sig → sProp 𝕄) : bigSep allCells Φ = bigSep Finset.univ fun c : Dev nD => bigSep Finset.univ fun i : Cell => Φ (kcell (c, i)) := by
    unfold allCells; rw [bigSep_map, bigSep_univ_prod]; rfl
  have hT : bigSep allToks (fun x => (dutyTok ER x.1 x.2.1 x.2.2 : sProp 𝕄)) = bigSep Finset.univ fun c : Dev nD => toks c := by
    unfold allToks; rw [bigSep_map, bigSep_univ_prod]
    exact bigSep_congr fun c _ => by unfold toks tok; rw [bigSep_univ_sum]; rfl
  iintro HX
  imod (Rounds.fund ER (Rd m) allCells allToks) $$ HX with ⟨Hst, Hr, Hat, Htok⟩
  imodintro
  ihave Hst' := (Entails.of_eq (hX fun g => roundState ER (Rd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat']; · iexact Hat'
    iexact Hr'
  iexact Htok'

/-- The kernel's own semaphores at zero, and the barrier's, the launch's one unscoped semaphore. -/
theorem ownSems0_eq (c : Dev nD) : (Pipeline.ownSems0 (Ix := Unit) (Name := ℕ) (U := UU) (Lvl := ℕ) (Val := Elt F) (τ := τ) osem c : sProp 𝕄) = doneOwn c := rfl
theorem unscopedSems0_eq (c : Dev nD) : (unscopedSems0 c : sProp 𝕄) = done c cBar := by
  unfold unscopedSems0; rw [bigSep_eq_bigSepL_of_eq [SemLoc.reg barSem] (by decide +kernel) (by decide)]; rfl
theorem bigSep_cell (Φ : Cell → sProp 𝕄) : bigSep Finset.univ Φ = iprop(Φ cBar ∗ bigSep Finset.univ fun i : Own => Φ (.inr i)) := by
  rw [bigSep_univ_sum, bigSep_univ_of_subsingleton ()]; rfl
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun i : Cell => semVal (kcell (c, i)) 0 : sProp 𝕄) := by
  rw [ownSems0_eq, unscopedSems0_eq, bigSep_cell]
  unfold doneOwn done
  iintro ⟨HO, HB⟩
  isplitl [HB]; · iexact HB
  iexact HO

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun i : Cell => iprop(∃ κ : ℕ, cellInv ER (Rd m) κ (kcell (c, i))))
          ∗ (bigSep Finset.univ fun i : Cell => iprop(atPos ER (kcell (c, i)) 0 ∅ 0 ∗ reached ER (kcell (c, i)) 0)) ∗ toks c) := by
  unfold G
  iintro ⟨Hos, Hus, Hst, Hat, Htok⟩
  ihave Hv := (sems0_eq (F := F) c) $$ [Hos Hus]
  · isplitl [Hos]; · iexact Hos
    iexact Hus
  imod (show iprop((bigSep Finset.univ fun i : Cell => semVal (kcell (c, i)) 0) ∗ bigSep Finset.univ fun i : Cell => roundState ER (Rd m) (kcell (c, i)) 0)
      ⊢ (|={Set.univ}=> bigSep Finset.univ fun i : Cell => iprop(∃ κ : ℕ, cellInv ER (Rd m) κ (kcell (c, i))) : sProp 𝕄) from by
        rw [← bigSep_sep']
        exact (bigSep_mono fun i _ => (Rounds.body_intro ER (Rd m) (kcell (c, i))).trans inv_alloc).trans (bigSep_fupd _ _)) $$ [Hv Hst] with Hinv
  · isplitl [Hv]; · iexact Hv
    iexact Hst
  imodintro
  isplitl [Hinv]; · iexact Hinv
  isplitl [Hat]; · iexact Hat
  iexact Htok

/-! ## The rights passed to those who pay -/

/-- Whom a device's `j`-th signal, its plane copies and its ring copies pay, as permutations. -/
def permS : Dev nD × Fin 5 ≃ Dev nD × Fin 5 where
  toFun x := (bar x.2 x.1, x.2)
  invFun x := (unbar x.2 x.1, x.2)
  left_inv x := by simp only [unbar_bar]
  right_inv x := by simp only [bar_unbar]
def permA : Dev nD × IA ≃ Dev nD × IA where
  toFun x := (pl x.1 x.2.1, (rev x.2.1, x.2.2))
  invFun x := (pl x.1 x.2.1, (rev x.2.1, x.2.2))
  left_inv x := by simp only [pl_pl, rev_rev]
  right_inv x := by simp only [pl_pl, rev_rev]
def permB : Dev nD × IB ≃ Dev nD × IB where
  toFun x := (zr x.1, x.2)
  invFun x := (zl x.1, x.2)
  left_inv x := by simp only [zl_zr]
  right_inv x := by simp only [zr_zl]

theorem around {T : Type} [Fintype T] (E : Dev nD × T ≃ Dev nD × T) (Ψ : Dev nD × T → sProp 𝕄) :
    (bigSep Finset.univ fun c : Dev nD => bigSep Finset.univ fun x : T => Ψ (c, x)) = bigSep Finset.univ fun c : Dev nD => bigSep Finset.univ fun x : T => Ψ (E (c, x)) := by
  rw [← bigSep_univ_prod Ψ, bigSep_univ_equiv E, bigSep_univ_prod]

/-- The rights a device pays with. -/
def payToks (c : Dev nD) : sProp 𝕄 :=
  iprop(goS c ∗ (bigSep Finset.univ fun x : IA => tok c (cSA x) 0) ∗ (bigSep Finset.univ fun x : IA => tok (pl c x.1) (cRA (rev x.1, x.2)) 0)
    ∗ (bigSep Finset.univ fun x : IB => tok c (cSB x) 0) ∗ (bigSep Finset.univ fun x : IB => tok (zr c) (cRB x) 0))

theorem bigSep_own (Φ : Own → sProp 𝕄) : bigSep Finset.univ Φ
    = iprop(((bigSep Finset.univ fun x : IA => Φ (.inl (.inl x))) ∗ (bigSep Finset.univ fun x : IA => Φ (.inl (.inr x))))
        ∗ (bigSep Finset.univ fun x : IB => Φ (.inr (.inl x))) ∗ (bigSep Finset.univ fun x : IB => Φ (.inr (.inr x)))) := by
  rw [bigSep_univ_sum, bigSep_univ_sum, bigSep_univ_sum]; rfl

theorem toks_around : (bigSep Finset.univ fun c : Dev nD => (toks c : sProp 𝕄)) ⊢ bigSep Finset.univ fun c : Dev nD => payToks c := by
  unfold toks payToks goS
  simp only [bigSep_own]
  rw [bigSep_sep', bigSep_sep', bigSep_sep', bigSep_sep', bigSep_sep', bigSep_sep', bigSep_sep', bigSep_sep',
    around permS (fun x => tok (F := F) x.1 cBar x.2), around permA (fun x => tok (F := F) x.1 (cRA x.2) 0),
    around permB (fun x => tok (F := F) x.1 (cRB x.2) 0)]
  iintro ⟨HS, ⟨H1, H2⟩, H3, H4⟩
  isplitl [HS]; · iexact HS
  isplitl [H1]; · iexact H1
  isplitl [H2]; · iexact H2
  isplitl [H3]; · iexact H3
  iexact H4

/-! ## The invariants shared by all -/

def records (K : Dev nD × Cell → ℕ) : sProp 𝕄 :=
  iprop((bigSep Finset.univ fun ci : Dev nD × Cell => cellInv ER (Rd m) (K ci) (kcell ci))
    ∗ bigSep Finset.univ fun ci : Dev nD × Cell => reached ER (kcell ci) 0)
instance records_persistent (K : Dev nD × Cell → ℕ) : BI.Persistent (records m K) := by unfold records; infer_instance

/-- A device's positions and the rights it pays with. -/
def rights (c : Dev nD) : sProp 𝕄 := iprop((bigSep Finset.univ fun i : Cell => atPos ER (kcell (c, i)) 0 ∅ 0) ∗ payToks c)
def G' (c : Dev nD) : sProp 𝕄 := iprop(∃ K, records m K ∗ rights c)

theorem regroup :
    (bigSep Finset.univ fun c : Dev nD => iprop((bigSep Finset.univ fun i : Cell => iprop(∃ κ : ℕ, cellInv ER (Rd m) κ (kcell (c, i))))
          ∗ (bigSep Finset.univ fun i : Cell => iprop(atPos ER (kcell (c, i)) 0 ∅ 0 ∗ reached ER (kcell (c, i)) 0)) ∗ toks c) : sProp 𝕄)
      ⊢ bigSep Finset.univ (G' m) := by
  rw [bigSep_sep', bigSep_sep', ← bigSep_univ_prod (fun ci : Dev nD × Cell => iprop(∃ κ : ℕ, cellInv ER (Rd m) κ (kcell ci))),
    bigSep_congr (s := Finset.univ) (fun (c : Dev nD) _ => bigSep_sep' Finset.univ (fun i : Cell => (atPos ER (kcell (c, i)) 0 ∅ 0 : sProp 𝕄)) (fun i => reached ER (kcell (c, i)) 0)),
    bigSep_sep', ← bigSep_univ_prod (fun ci : Dev nD × Cell => (reached ER (kcell ci) 0 : sProp 𝕄))]
  iintro ⟨HI, ⟨Hat, #HR⟩, Htok⟩
  ihave HK := (BI.bigSep_exists_pi Finset.univ (fun (ci : Dev nD × Cell) (κ : ℕ) => (cellInv ER (Rd m) κ (kcell ci) : sProp 𝕄))) $$ HI
  icases HK with ⟨%K, #HI⟩
  ihave Htk := (toks_around (F := F)) $$ Htok
  iapply (bigSep_with_persistent (R := records m K) (Φ := rights (F := F)) fun c _ => show iprop(records m K ∗ rights c) ⊢ G' m c from by
    unfold G'; iintro H; iexists K; iexact H)
  isplitr
  · unfold records; isplitl; · iexact HI
    iexact HR
  · unfold rights
    rw [bigSep_sep']
    isplitl [Hat]; · iexact Hat
    iexact Htk

theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The credit at launch -/

/-- Who makes a payment to a device. -/
def source (c : Dev nD) : Due → Dev nD
  | .inl j => unbar j c
  | .inr (.inl x) => pl c (rev x.1)
  | .inr (.inr _) => zl c
theorem source_target (d : Dev nD) (e : Due) : source (target d e) e = d := by
  rcases e with j | x | x
  · exact unbar_bar j d
  · exact pl_pl d x.1
  · exact zl_zr d
theorem target_source (c : Dev nD) (e : Due) : target (source c e) e = c := by
  rcases e with j | x | x
  · exact bar_unbar j c
  · exact pl_pl' c x.1
  · exact zr_zl c

/-- How many of the payments go to semaphore `i`. -/
def times (i : Cell) : List Due → ℕ
  | [] => 0
  | e :: es => times i es + if dueCell e = i then 1 else 0

theorem owed_sum (c : Dev nD) (i : Cell) (es : List Due) :
    ∑ d : Dev nD, rem d es (kcell (c, i)) () = times i es * amt i := by
  induction es with
  | nil => exact (Finset.sum_eq_zero fun d _ => rfl).trans (Nat.zero_mul _).symm
  | cons e es ih =>
    have h (d : Dev nD) : rem d (e :: es) (kcell (c, i)) () = rem d es (kcell (c, i)) () + if d = source c e then (if dueCell e = i then amt i else 0) else 0 := by
      show (rem d es + tallyAt (dueAt d e) () (amt (dueCell e))) (kcell (c, i)) () = _
      rw [Pi.add_apply, Finsupp.add_apply, tallyAt_apply]
      congr 1
      by_cases hk : kcell (c, i) = dueAt d e
      · have h' := kcell_injective (a₁ := (c, i)) (a₂ := (target d e, dueCell e)) hk
        have h1 : c = target d e := congrArg Prod.fst h'
        have h2 : i = dueCell e := congrArg Prod.snd h'
        rw [if_pos ⟨hk, rfl⟩, h1, source_target, if_pos rfl, if_pos h2.symm, h2]
      · rw [if_neg fun h => hk h.1]
        by_cases hd : d = source c e
        · rw [if_pos hd, if_neg fun h2 => hk (by rw [hd]; unfold dueAt; rw [target_source, h2])]
        · rw [if_neg hd]
    rw [Finset.sum_congr rfl fun d _ => h d, Finset.sum_add_distrib, ih, Finset.sum_ite_eq' Finset.univ (source c e), if_pos (Finset.mem_univ _)]
    rw [show times i (e :: es) = times i es + if dueCell e = i then 1 else 0 from rfl, Nat.add_mul, ite_mul, Nat.one_mul, Nat.zero_mul]

/-- Each semaphore others pay is owed, in all, what its device waits for. -/
theorem launch_cell (c : Dev nD) (i : Cell) (hi : times i dues = (dut i).card) :
    tallyOn (kcell (c, i)) (launchCredit (Pipeline.owing fun d => rem d dues) 0 (kcell (c, i))) = (tallyAt (kcell (c, i)) () ((dut i).card * amt i) : CellTallies nD τ sig Unit) := by
  unfold tallyAt; refine congrArg _ (Finsupp.ext fun u => ?_); cases u
  rw [Pipeline.launchCredit_owing, Finsupp.single_eq_same, owed_sum, hi]

theorem count_bar : times cBar dues = (dut cBar).card := by decide +kernel
theorem count_A (x : IA) : times (cRA x) dues = (dut (cRA x)).card := by revert x; decide +kernel
theorem count_B (x : IB) : times (cRB x) dues = (dut (cRB x)).card := by revert x; decide +kernel

/-- The credit of a semaphore's waits. -/
def credit (c : Dev nD) (i : Cell) : sProp 𝕄 := cred (tallyAt (kcell (c, i)) () ((dut i).card * amt i))

theorem creds (c : Dev nD) : (Pipeline.launchCred (fun d => rem d dues) c : sProp 𝕄)
    ⊢ iprop(credit c cBar ∗ (bigSep Finset.univ fun x : IA => credit c (cRA x)) ∗ (bigSep Finset.univ fun x : IB => credit c (cRB x))) := by
  unfold Pipeline.launchCred
  refine BI.Entails.trans (show _ ⊢ bigSep (Finset.univ.map ⟨csem, csem_injective⟩) (fun sm : SemLoc sig =>
    (cred (tallyOn ((c.tc : Thread nD τ), sm) (launchCredit (Pipeline.owing fun d => rem d dues) 0 ((c.tc : Thread nD τ), sm))) : sProp 𝕄)) from
      bigSep_subset (Finset.subset_univ _)) ?_
  rw [bigSep_map]
  refine (show (bigSep Finset.univ fun i : Cell => (cred (tallyOn (kcell (c, i)) (launchCredit (Pipeline.owing fun d => rem d dues) 0 (kcell (c, i)))) : sProp 𝕄)) ⊢ _ from ?_)
  rw [bigSep_cell, bigSep_own]
  unfold credit
  rw [launch_cell c cBar count_bar]
  simp only [launch_cell c _ (count_A _), launch_cell c _ (count_B _)]
  iintro ⟨H0, ⟨-, H1⟩, -, H2⟩
  isplitl [H0]; · iexact H0
  isplitl [H1]; · iexact H1
  iexact H2

/-! ## The run -/

theorem deal_intro (c : Dev nD) :
    iprop(rights c ∗ credit c cBar ∗ (bigSep Finset.univ fun x : IA => credit c (cRA x)) ∗ (bigSep Finset.univ fun x : IB => credit c (cRB x))) ⊢ (deal c : sProp 𝕄) := by
  unfold rights payToks deal goA goB dueRA dueRB due
  rw [bigSep_cell, bigSep_own]
  simp only [bigSep_sep']
  unfold credit
  iintro ⟨⟨⟨PB, ⟨P1, P2⟩, P3, P4⟩, TS, T1, T2, T3, T4⟩, CB, C1, C2⟩
  isplitl [PB CB]
  · isplitl [PB]; · iexact PB
    iexact CB
  isplitl [TS]; · iexact TS
  isplitl [T1 T2 P1]
  · isplitl [T1]; · iexact T1
    isplitl [T2]; · iexact T2
    iexact P1
  isplitl [T3 T4 P3]
  · isplitl [T3]; · iexact T3
    isplitl [T4]; · iexact T4
    iexact P3
  isplitl [P2 C1]
  · isplitl [P2]; · iexact P2
    iexact C1
  isplitl [P4]; · iexact P4
  iexact C2

theorem start_intro (c : Dev nD) :
    iprop(Pipeline.unscopedRestP Pipeline.Prefetch.none cfg0.spec c (fun b => m ((c : Thread nD τ).loc b)) ∗ levAts L lv
        ∗ Pipeline.launchCred (fun d => rem d dues) c ∗ prngReg c (ρ c) ∗ G' m c)
      ⊢ |={Set.univ}=> iprop(start m c ∗ emp) := by
  unfold G'
  iintro ⟨-, #Hlev, Hcr, -, ⟨%K, #HR, Hr⟩⟩
  ihave Hc := (creds (F := F) c) $$ Hcr
  ihave Hd := (deal_intro (F := F) c) $$ [Hr Hc]
  · isplitl [Hr]; · iexact Hr
    iexact Hc
  imodintro
  unfold start
  isplitl
  · iexists K
    isplitr
    · unfold env records
      icases HR with ⟨#H1, #H2⟩
      isplitr; · iexact H1
      isplitr; · iexact H2
      iexact Hlev
    iexact Hd
  · iempintro

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀ scratch some_
  iintro ⟨Hs, -, Hr⟩
  isplitl [Hs]; · iexact Hs
  iexact Hr

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq, ownSems0_eq, unscopedSems0_eq]
  unfold Φ₁ scratch some_
  iintro ⟨Hr, HO, HB⟩
  isplitl [HB]; · iexact HB
  isplitl [HO]; · iexact HO
  iexact Hr

theorem which_other (sm : SemLoc sig) (h : ∀ i, csem i ≠ sm) : which sm = none := by
  unfold which Function.partialInv
  exact dif_neg fun ⟨i, hi⟩ => h i hi

theorem waits (c : Dev nD) : (levAts L lv : sProp 𝕄) ⊢ Pipeline.cellsWaits cfgs (dats m ρ) () 0 c :=
  Pipeline.cellsWaits_intro cfgs (dats m ρ) () 0 c fun w s t => by
    have hlv : lv ((c : Thread nD τ), .dma ((cfg0.win w).sem s)) () ≤ 0 := by
      unfold lv
      rw [which_other]
      · exact Nat.le_refl 0
      · rintro (_ | i) h
        · cases h
        · exact ownSemFacts.disj i w s h
    rcases t with ⟨_ | _, ht⟩
    · exact mayWait c _ 0 hlv dues (by decide)
    · exact mayWait c _ 0 hlv [] (fun e he => absurd he List.not_mem_nil)

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

/-- From any memory with zero counters every fair execution ends, each device's arrays at the computed contents and every
    counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := fun d => rem d dues) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund_all m) $$ HX with HG
      imodintro
      isplitl [HP]; · iexact HP
      iexact HG)
    (hglob := glob m)
    (hA := fun _ _ => rfl) (hpf := fun _ k => k.elim0)
    (X := start m) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu]; · iexact Hu
      iexact HSI)
    (hQ := fun _ h hs => ⟨fun c w => (h c).1 w, sem_eq_zero hs fun c => (h c).2.2⟩)

end Cert.Scatter

end
-- ==== Proof.Frames.lean ====
/-
The frames: every program runs, its arguments end unchanged, and every semaphore ends at zero.
-/
module

public import proofs.«01_k».proof.Defs
public import proofs.«01_k».proof.Proof.Launch
public import proofs.«01_k».proof.Proof.Gen.Kernel
public import proofs.«01_k».proof.Proof.Gen.ReferenceIdeal.Frame

@[expose] public section

set_option maxRecDepth 20000

noncomputable section

namespace Cert.Scatter

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

theorem finalA_in (w : Fin cfg0.W) (hw : (cfg0.win w).isOut = false) (c : Dev nD) : finalA m ρ c w = m ((cfg0.win w).arr.view.loc (c : Thread nD τ)) :=
  (dats m ρ 0 c).arrAt_in w hw _

/-- The arguments unchanged, every semaphore at zero. -/
theorem frame_run : θ_run defs (onTc (τ := τ) (main (F := F))) ⟨m, fun _ => 0, ρ⟩ (fun r => (∀ c : Dev nD,
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)) ∧ r.2.sem = fun _ => 0) :=
  (θ_run defs _ _).mono (fun _ h => ⟨fun c => ⟨(h.1 c 0).trans (finalA_in m ρ 0 rfl c), (h.1 c 1).trans (finalA_in m ρ 1 rfl c),
    (h.1 c 2).trans (finalA_in m ρ 2 rfl c), (h.1 c 3).trans (finalA_in m ρ 3 rfl c)⟩, h.2⟩) (run_main m ρ)

theorem frame_KernelIdeal : Cert.quiescent_KernelIdeal := fun m ρ _ => frame_run m ρ

/-- The kernel as printed has the idealized kernel's text, so its frame is the run at `Bits`. -/
theorem frame_same : Cert.quiescent_Kernel
    = ∀ (m : (ℓ : Loc nD τ sig) → Buf (Elt Bits) ℓ) (ρ : Dev nD → PrngReg), True → θ_run (defs (F := Bits)) (onTc (τ := τ) (main (F := Bits))) ⟨m, fun _ => 0, ρ⟩
        (fun r => (∀ c : Dev nD,
          r.2.mem ((c.tc : Thread nD τ).loc main_arg0) = m ((c.tc : Thread nD τ).loc main_arg0)
          ∧ r.2.mem ((c.tc : Thread nD τ).loc main_arg1) = m ((c.tc : Thread nD τ).loc main_arg1)
          ∧ r.2.mem ((c.tc : Thread nD τ).loc main_arg2) = m ((c.tc : Thread nD τ).loc main_arg2)
          ∧ r.2.mem ((c.tc : Thread nD τ).loc main_arg3) = m ((c.tc : Thread nD τ).loc main_arg3)) ∧ r.2.sem = fun _ => 0) := by
  sl_kernel_rfl

theorem frame_Kernel : Cert.quiescent_Kernel := frame_same.mpr fun m ρ _ => frame_run m ρ

theorem frame_ReferenceIdeal : Cert.quiescent_ReferenceIdeal := fun m ρ _ => Cert.ReferenceIdeal.Gen.frame m ρ

theorem ideal_same : Cert.preserves_Kernel_KernelIdeal := trivial

end Cert.Scatter

end
-- ==== Proof.Quant.lean ====
/-
What a plane's copies round away, over the extended reals: rounding to the nearest integer and clipping to the range from
-127 to 127 gives an integer of eight bits, so the conversion to int8 and back is the identity on it. And the result's
entry as one formula of the whole arrays: the sixteen devices' shares, scaled, and no less than zero.
-/
module

public import Idealize.ShloMosaic.Lib.Pointwise
public import Idealize.ShloMosaic.Lib.IdealHost
public import Idealize.ShloMosaic.Lib.Routing.Words

@[expose] public section

noncomputable section

namespace Cert.Scatter

open Idealize.ShloMosaic

/-- A product as it is sent along a plane: rounded to the nearest integer, ties to even, and clipped
    to the range from `-127` to `127`. -/
def sent (x : EReal) : EReal :=
  min (Ideal.ofBits .f32 0x42FE0000#32) (max (Ideal.ofBits .f32 0xC2FE0000#32) (Ideal.liftRound Ideal.roundHalfEven x))

/-- The upper clip is `127`, -/
theorem ofBits_hi : Ideal.ofBits .f32 0x42FE0000#32 = ((127 : ℝ) : EReal) := by
  simp [Ideal.ofBits, Ideal.ieee, -EReal.coe_mul]; norm_num

/-- and the lower one `-127`. -/
theorem ofBits_lo : Ideal.ofBits .f32 0xC2FE0000#32 = ((-127 : ℝ) : EReal) := by
  simp [Ideal.ofBits, Ideal.ieee, -EReal.coe_mul, -EReal.coe_neg]; norm_num

/-- The reals' maximum and minimum are the extended reals'. -/
theorem coe_max' (a b : ℝ) : ((max a b : ℝ) : EReal) = max (a : EReal) (b : EReal) :=
  EReal.coe_strictMono.monotone.map_max
theorem coe_min' (a b : ℝ) : ((min a b : ℝ) : EReal) = min (a : EReal) (b : EReal) :=
  EReal.coe_strictMono.monotone.map_min

/-- What is sent is an integer of eight bits. -/
theorem sent_int (x : EReal) : ∃ z : Int, -127 ≤ z ∧ z ≤ 127 ∧ sent x = ((z : ℝ) : EReal) := by
  unfold sent
  rw [ofBits_hi, ofBits_lo]
  have key : ∀ z : Int, min ((127 : ℝ) : EReal) (max ((-127 : ℝ) : EReal) ((z : ℝ) : EReal))
      = (((min 127 (max (-127) z) : Int) : ℝ) : EReal) := by
    intro z
    rw [← coe_max', ← coe_min']
    push_cast
    rfl
  induction x using EReal.rec with
  | bot =>
    refine ⟨-127, by decide, by decide, ?_⟩
    rw [Ideal.liftRound_bot, max_eq_left bot_le, ← coe_min']
    norm_num
  | top =>
    refine ⟨127, by decide, by decide, ?_⟩
    rw [Ideal.liftRound_top, max_eq_right le_top, min_eq_left le_top]
    norm_num
  | coe r =>
    rw [Ideal.liftRound_coe]
    exact ⟨min 127 (max (-127) (Ideal.roundHalfEven r)), by omega, by omega, key _⟩

/-- Converting it to int8 and back therefore changes nothing. -/
theorem sent_int8 (x : EReal) : (((Ideal.fptosi 8 (sent x)).toInt : ℝ) : EReal) = sent x := by
  obtain ⟨z, h1, h2, hz⟩ := sent_int x
  rw [hz]
  unfold Ideal.fptosi
  rw [Ideal.toIntClamped_coe]
  congr 2
  have h : (if (0 : ℝ) ≤ (z : ℝ) then ⌊(z : ℝ)⌋ else ⌈(z : ℝ)⌉) = z := by
    split <;> simp
  rw [h]
  have h' : max (-(2 ^ (8 - 1) : Nat) : Int) (min ((2 ^ (8 - 1) : Nat) - 1) z) = z := by
    norm_num
    omega
  rw [h', BitVec.toInt_ofInt]
  unfold Int.bmod
  norm_num
  omega

/-- The word that selects a row's own column of the mesh: row `r` lies in the row block of the device
    of number `r / 256`, which stands in column `r / 256 % 4`. -/
theorem word_column (r k : Nat) (hr : r < 4096) (hk : k < 4) :
    IntOp.cmpi CmpIPredicate.eq
      (IntOp.remsi ArithUnit.vector (IntOp.divsi ArithUnit.vector (BitVec.ofNat 32 r) 256#32) 4#32) (BitVec.ofNat 32 k)
    = BitVec.ofBool (decide (r / 256 % 4 = k)) := by
  have h1 := Routing.divsi_word ArithUnit.vector (a := r) (b := 256) (by omega) (by decide) (by decide)
  have h2 := Routing.remsi_word ArithUnit.vector (a := r / 256) (b := 4) (by omega) (by decide) (by decide)
  rw [h1, h2]
  show BitVec.ofBool (BitVec.ofNat 32 (r / 256 % 4) == BitVec.ofNat 32 k) = _
  congr 1
  rw [Bool.eq_iff_iff, beq_iff_eq, decide_eq_true_iff]
  constructor
  · intro h
    have := congrArg BitVec.toNat h
    simp only [BitVec.toNat_ofNat] at this
    omega
  · intro h
    rw [h]

/-- What a device's product adds to a row of the result: itself where the device stands in the row's own
    column of the mesh, and elsewhere what is sent of it. `j` is the row block's number and `d` the
    device's. -/
def share (j d : Nat) (p : EReal) : EReal := if j % 4 = d % 4 then p else sent p

/-- An entry of the product of column slice `d` of `x` and row slice `d` of `w`. -/
def dotE (x : (⟨2, ![4096, 4096]⟩ : Shape).Idx → EReal) (w : (⟨2, ![4096, 2048]⟩ : Shape).Idx → EReal) (d : Fin 16)
    (r : Fin 4096) (n : Fin 2048) : EReal :=
  ∑ k : Fin 256, x (ix2 r ⟨256 * d.val + k.val, by omega⟩) * w (ix2 ⟨256 * d.val + k.val, by omega⟩ n)

/-- An entry of the result: the sixteen shares, scaled, and no less than zero. -/
def resE (x : (⟨2, ![4096, 4096]⟩ : Shape).Idx → EReal) (w : (⟨2, ![4096, 2048]⟩ : Shape).Idx → EReal) (sx sw : EReal)
    (r : Fin 4096) (n : Fin 2048) : EReal :=
  max ((∑ d : Fin 16, share (r.val / 256) d.val (dotE x w d r n)) * (sx * sw)) 0

end Cert.Scatter

end
-- ==== Proof.KernelValue.lean ====
/-
The entries of what the kernel computes, over the extended reals: a device's products, what it sends of them, a plane's
sums, what goes round the ring, and the result; and the sixteen devices in the order in which the planes and the ring meet
them.
-/
module

public import proofs.«01_k».proof.Proof.Frames
public import proofs.«01_k».proof.Proof.Quant

@[expose] public section

set_option maxRecDepth 20000

noncomputable section

namespace Cert.Scatter

open Cert.KernelIdeal Cert.KernelIdeal.Gen
open Idealize.ShloMosaic Idealize.ShloMosaic.TcCoe

variable (m : (ℓ : Loc nD τ sig) → Buf (Elt Ideal) ℓ)

/-- An entry of a device's product with one of its row chunks. -/
def partE (c : Dev nD) (i : Fin 16) (r : Fin 256) (n : Fin 2048) : EReal :=
  ∑ k : Fin 256, xB m c (ix2 ⟨256 * i.val + r.val, by omega⟩ k) * wB m c (ix2 k n)

/-- Its product's entry, whatever the blocks. -/
theorem pay15_apply (w : Vec Ideal S256x2048 .fp8e4m3) (x : Vec Ideal S256x256 .fp8e4m3) (r : Fin 256) (n : Fin 2048) :
    k0_pay15 (k0_pay1 w) x (ix2 r n) = ∑ k : Fin 256, x (ix2 r k) * w (ix2 k n) := by
  unfold k0_pay15 k0_pay1
  pointwise

/-- Where a row chunk's, a half's, a slot's half's entries lie. -/
theorem emb_rX (i : Fin 16) (r k : Fin 256) : (rX i).emb (ix2 r k) = ix2 ⟨256 * i.val + r.val, by omega⟩ k := by
  funext a
  apply Fin.ext
  fin_cases a
  · show 256 * i.val + 1 * r.val = 256 * i.val + r.val; omega
  · show 0 + 1 * k.val = k.val; omega
theorem emb_rO (h : Fin 2) (r : Fin 256) (n : Fin 1024) : (rO h).emb (ix2 r n) = ix2 r ⟨1024 * h.val + n.val, by omega⟩ := by
  funext a
  apply Fin.ext
  fin_cases a
  · show 0 + 1 * r.val = r.val; omega
  · show 1024 * h.val + 1 * n.val = 1024 * h.val + n.val; omega
theorem emb_rL (h : Fin 2) (r : Fin 256) (n : Fin 1024) :
    (rL h).emb (ix3 0 r n) = ix3 0 r ⟨1024 * h.val + n.val, by omega⟩ := by
  funext a
  apply Fin.ext
  fin_cases a
  · rfl
  · show 0 + 1 * r.val = r.val; omega
  · show 1024 * h.val + 1 * n.val = 1024 * h.val + n.val; omega

/-- The entries of a device's products, kept -/
theorem part_apply (c : Dev nD) (i : Fin 16) (r : Fin 256) (n : Fin 2048) : part m c i (ix2 r n) = partE m c i r n := by
  unfold part k0_pay16 partE
  pointwise
  rw [pay15_apply]
  simp only [emb_rX]

/-- and sent. -/
theorem wire_apply (c : Dev nD) (i : Fin 16) (r : Fin 256) (n : Fin 2048) :
    wire m c i (ix3 0 r n) = Ideal.fptosi 8 (sent (partE m c i r n)) := by
  unfold wire k0_pay17 partE sent
  pointwise
  rw [pay15_apply]
  simp only [emb_rX]
  rfl

/-- A received word as the float it stands for. -/
theorem float_sent (x : EReal) : FloatOps.sitofp (F := Ideal) FTy.f32 (Ideal.fptosi 8 (sent x)) = sent x := sent_int8 x

/-- What a plane adds up of a row chunk at one of its devices: that device's product and what the other three
    send of theirs. -/
def planeE (c : Dev nD) (i : Fin 16) (r : Fin 256) (n : Fin 2048) : EReal :=
  partE m c i r n + sent (partE m (pl c 0) i r n) + sent (partE m (pl c 1) i r n) + sent (partE m (pl c 2) i r n)

/-- The chunk kept at a step is its plane's sum. -/
theorem kept_apply (c : Dev nD) (s : Fin 3) (r : Fin 256) (n : Fin 2048) :
    kept m c s (ix2 r n) = planeE m c (chunk c s.succ 0) r n := by
  unfold kept k0_pay47 got planeE
  pointwise
  rw [part_apply, wire_apply, wire_apply, wire_apply, float_sent, float_sent, float_sent]

/-- What goes round the ring: the planes' sums so far, at the first step -/
theorem ring0_apply (c : Dev nD) (h : Fin 2) (r : Fin 256) (n : Fin 1024) :
    ring0 m c h (ix3 0 r n) = planeE m c (chunk c 0 0) r ⟨1024 * h.val + n.val, by omega⟩ := by
  unfold ring0 k0_pay45 got planeE hC hL
  pointwise
  rw [emb_rO, emb_rL, part_apply, wire_apply, wire_apply, wire_apply, float_sent, float_sent, float_sent]

/-- the second -/
theorem ring1_apply (c : Dev nD) (h : Fin 2) (r : Fin 256) (n : Fin 1024) :
    ring1 m c h (ix3 0 r n) = planeE m c (chunk c 1 0) r ⟨1024 * h.val + n.val, by omega⟩
      + planeE m (zl c) (chunk c 1 0) r ⟨1024 * h.val + n.val, by omega⟩ := by
  unfold ring1 k0_pay48 hC
  pointwise
  rw [emb_rO, kept_apply, ring0_apply, show chunk (zl c) 0 0 = chunk c 1 0 from chunk_zl c 0]
  rfl

/-- and the third. -/
theorem ring2_apply (c : Dev nD) (h : Fin 2) (r : Fin 256) (n : Fin 1024) :
    ring2 m c h (ix3 0 r n) = planeE m c (chunk c 2 0) r ⟨1024 * h.val + n.val, by omega⟩
      + (planeE m (zl c) (chunk c 2 0) r ⟨1024 * h.val + n.val, by omega⟩
      + planeE m (zl (zl c)) (chunk c 2 0) r ⟨1024 * h.val + n.val, by omega⟩) := by
  unfold ring2 k0_pay48 hC
  pointwise
  rw [emb_rO, kept_apply, ring1_apply, show chunk (zl c) 1 0 = chunk c 2 0 from chunk_zl c 1]
  rfl

/-- The result's entry: the four planes' sums of the device's own row chunk, scaled, and no less than zero. -/
theorem outH_apply (c : Dev nD) (h : Fin 2) (r : Fin 256) (n : Fin 1024) :
    outH m c h (ix2 r n) = max ((planeE m c (chunk c 3 0) r ⟨1024 * h.val + n.val, by omega⟩
      + (planeE m (zl c) (chunk c 3 0) r ⟨1024 * h.val + n.val, by omega⟩
      + (planeE m (zl (zl c)) (chunk c 3 0) r ⟨1024 * h.val + n.val, by omega⟩
      + planeE m (zl (zl (zl c))) (chunk c 3 0) r ⟨1024 * h.val + n.val, by omega⟩))) * (sxB m c i0 * swB m c i0)) 0 := by
  unfold outH k0_pay56 k0_pay55 hC
  pointwise
  show max ((kept m c 2 ((rO h).emb (ix2 r n)) + ring2 m (zl c) h (ix3 0 r n)) * _) 0 = _
  rw [emb_rO, kept_apply, ring2_apply, show chunk (zl c) 2 0 = chunk c 3 0 from chunk_zl c 2]
  rfl

/-- The result's entry at any column. -/
theorem outAt_apply (c : Dev nD) (r : Fin 256) (n : Fin 2048) :
    outAt m c (ix2 r n) = max ((planeE m c (chunk c 3 0) r n + (planeE m (zl c) (chunk c 3 0) r n
      + (planeE m (zl (zl c)) (chunk c 3 0) r n + planeE m (zl (zl (zl c))) (chunk c 3 0) r n))) * (sxB m c i0 * swB m c i0)) 0 := by
  have hj : jOf (ix2 r n) = ix2 r ⟨n.val % 1024, Nat.mod_lt _ (by decide)⟩ := by
    funext a
    fin_cases a <;> rfl
  have hn : ∀ h : 1024 * (hOf (ix2 r n)).val + n.val % 1024 < 2048, (⟨1024 * (hOf (ix2 r n)).val + n.val % 1024, h⟩ : Fin 2048) = n := by
    intro h
    apply Fin.ext
    show 1024 * (n.val / 1024) + n.val % 1024 = n.val
    omega
  unfold outAt
  rw [hj, outH_apply]
  simp only [hn]

/-! ## The sixteen devices in the order of the planes and the ring -/

/-- The devices met from `c`: by planes, in each the device on the ring and then the other three. -/
def met (c : Dev nD) (i : Fin 16) : Dev nD :=
  let e : Dev nD := match (⟨i.val / 4, by omega⟩ : Fin 4) with
    | 0 => c
    | 1 => zl c
    | 2 => zl (zl c)
    | 3 => zl (zl (zl c))
  match (⟨i.val % 4, by omega⟩ : Fin 4) with
    | 0 => e
    | 1 => pl e 0
    | 2 => pl e 1
    | 3 => pl e 2

/-- Each device is met once. -/
theorem met_bijective (c : Dev nD) : Function.Bijective (met c) := by revert c; decide

/-- Sixteen terms, four by four. -/
theorem sum_four (g : Fin 16 → EReal) :
    ∑ i : Fin 16, g i = (g 0 + g 1 + g 2 + g 3) + ((g 4 + g 5 + g 6 + g 7) + ((g 8 + g 9 + g 10 + g 11) + (g 12 + g 13 + g 14 + g 15))) := by
  have h : ∑ i : Fin 16, g i = ∑ k ∈ Finset.range 16, g (Fin.ofNat 16 k) := by
    rw [Finset.sum_range]
    exact Finset.sum_congr rfl fun i _ => congrArg g (Fin.ext (Nat.mod_eq_of_lt i.isLt).symm)
  rw [h]
  simp only [Finset.sum_range_succ, Finset.sum_range_zero, zero_add, add_assoc]
  rfl

/-- So a sum over the devices may be taken in the order they are met in. -/
theorem sum_met (f : Fin 16 → EReal) (c : Dev nD) :
    ∑ d : Fin 16, f d
      = (f c + f (pl c 0) + f (pl c 1) + f (pl c 2))
        + ((f (zl c) + f (pl (zl c) 0) + f (pl (zl c) 1) + f (pl (zl c) 2))
        + ((f (zl (zl c)) + f (pl (zl (zl c)) 0) + f (pl (zl (zl c)) 1) + f (pl (zl (zl c)) 2))
        + (f (zl (zl (zl c))) + f (pl (zl (zl (zl c))) 0) + f (pl (zl (zl (zl c))) 1) + f (pl (zl (zl (zl c))) 2)))) := by
  rw [← (met_bijective c).sum_comp f, sum_four]
  rfl

/-- Round the ring the column stays, -/
theorem zl_column (c : Dev nD) : (zl c).val % 4 = c.val % 4 := by revert c; decide
/-- and along the plane it changes. -/
theorem pl_column (c : Dev nD) (p : Fin 3) : (pl c p).val % 4 ≠ c.val % 4 := by revert c p; decide

end Cert.Scatter

end
-- ==== Proof.RefValue.lean ====
/-
What the reference's one call leaves, as one function of the blocks it reads, and that function's entries over the
extended reals.
-/
module

public import proofs.«01_k».proof.Proof.Gen.ReferenceIdeal.Frame
public import proofs.«01_k».proof.Proof.Gen.ReferenceIdeal.Value
public import Idealize.ShloMosaic.Lib.Pointwise
public import proofs.«01_k».proof.Proof.Quant

@[expose] public section

set_option maxRecDepth 20000

noncomputable section

namespace Cert.Scatter.Ref

open Cert.ReferenceIdeal Cert.ReferenceIdeal.Gen
open Idealize.ShloMosaic Idealize.ShloMosaic.TcCoe Idealize.ShloMosaic.Tactic

variable {F : FTy → Type} [FloatOps F]

/-- The product of a column slice of `x` and a row slice of `w`. -/
def prodV (v : Vec F S4096x256 .fp8e4m3) (w : Vec F S256x2048 .fp8e4m3) : FVec F S4096x2048 .f32 :=
  matmul dot_S4096x256_S256x2048_S4096x2048_1_0_0_1_n_n none (extf .f32 v bitsLt_fp8e4m3_f32)
    (extf .f32 w bitsLt_fp8e4m3_f32) (constant S4096x2048 .f32 0x00000000#32)

/-- A product rounded and clipped to the range of int8. -/
def sentV (p : FVec F S4096x2048 .f32) : FVec F S4096x2048 .f32 :=
  minimumf (broadcast S4096x2048 (Scalar.ofBits .f32 0x42FE0000#32))
    (maximumf (broadcast S4096x2048 (Scalar.ofBits .f32 0xC2FE0000#32)) (roundeven p))

/-- One addend of the reference: the product in the rows of its own column of the mesh, the
    rounded product elsewhere. -/
def termV (k : BitVec 32) (v : Vec F S4096x256 .fp8e4m3) (w : Vec F S256x2048 .fp8e4m3) : FVec F S4096x2048 .f32 :=
  select (broadcastTo S4096x2048 (shapeCast S4096x1 (cmpi .eq k0_pay2 (broadcast S4096x1 k)) shapeCasts_S4096x1_S4096x1)
    broadcasts_S4096x1_S4096x2048) (prodV v w) (sentV (prodV v w))

/-- Column slice `d` of `x`. -/
def colsOf (x : Vec F S4096x4096 .fp8e4m3) (d : Fin 16) : Vec F S4096x256 .fp8e4m3 :=
  fun j => x (Idealize.ShloMosaic.ix2 (j 0) ⟨256 * d.val + (j 1).val, by have : (j 1).val < 256 := (j 1).isLt; omega⟩)

/-- Row slice `d` of `w`. -/
def rowsOf (w : Vec F S4096x2048 .fp8e4m3) (d : Fin 16) : Vec F S256x2048 .fp8e4m3 :=
  fun j => w (Idealize.ShloMosaic.ix2 ⟨256 * d.val + (j 0).val, by have : (j 0).val < 256 := (j 0).isLt; omega⟩ (j 1))

/-- The sum of the first addends, in order. -/
def accV (x : Vec F S4096x4096 .fp8e4m3) (w : Vec F S4096x2048 .fp8e4m3) : (n : Nat) → n ≤ 16 → FVec F S4096x2048 .f32
  | 0, _ => broadcast S4096x2048 (Scalar.ofBits .f32 0x00000000#32)
  | n + 1, h => addf (accV x w n (by omega)) (termV (BitVec.ofNat 32 (n % 4)) (colsOf x ⟨n, by omega⟩) (rowsOf w ⟨n, by omega⟩))

/-- What the reference leaves. -/
def refV (x : Vec F S4096x4096 .fp8e4m3) (w : Vec F S4096x2048 .fp8e4m3) (sx sw : Vec F S1 .f32) : FVec F S4096x2048 .f32 :=
  maximumf (mulf (accV x w 16 (Nat.le_refl _)) (broadcast S4096x2048 (Scalar.mulf (sx (Idealize.ShloMosaic.ix1 0)) (sw (Idealize.ShloMosaic.ix1 0)))))
    (broadcast S4096x2048 (Scalar.ofBits .f32 0x00000000#32))

/-- A load of column slice `d` of a staged array. -/
theorem ld_cols (x : Vec F S4096x4096 .fp8e4m3) (d : Fin 16) (o : Nat) (ho : o = 256 * d.val)
    (inb : ∀ a, (![0, o] : Fin 2 → Nat) a + (![4096, 256] : Fin 2 → Nat) a ≤ S4096x4096.size a) :
    View.ld x (Rect.unit ![0, o] ![4096, 256] inb) = colsOf x d := by
  subst ho
  funext j
  idx_vars j
  unfold colsOf
  pointwise

/-- A load of row slice `d` of a staged array. -/
theorem ld_rows (w : Vec F S4096x2048 .fp8e4m3) (d : Fin 16) (o : Nat) (ho : o = 256 * d.val)
    (inb : ∀ a, (![o, 0] : Fin 2 → Nat) a + (![256, 2048] : Fin 2 → Nat) a ≤ S4096x2048.size a) :
    View.ld w (Rect.unit ![o, 0] ![256, 2048] inb) = rowsOf w d := by
  subst ho
  funext j
  idx_vars j
  unfold rowsOf
  pointwise

/-- The one word of a scalar's staging buffer. -/
theorem ld_word (x : Vec F S1 .f32) (inb : ∀ a, (![0] : Fin 1 → Nat) a + (![1] : Fin 1 → Nat) a ≤ S1.size a) (j) :
    View.ld x (Rect.unit ![0] ![1] inb) j = x (Idealize.ShloMosaic.ix1 0) := by
  show x _ = x _
  congr 1
  funext a
  fin_cases a
  exact Subsingleton.elim (α := Fin 1) _ _

/-- The block the reference's one call leaves. -/
theorem out_eq (c : Dev nD) (arg0 : Memref sig .tc .vmem S4096x4096 .fp8e4m3) (harg0 : arg0.IsWhole) (arg1 : Memref sig .tc .vmem S4096x2048 .fp8e4m3) (harg1 : arg1.IsWhole) (arg2 : Memref sig .tc .smem S1 .f32) (harg2 : arg2.IsWhole) (arg3 : Memref sig .tc .smem S1 .f32) (harg3 : arg3.IsWhole) (arg4 : Memref sig .tc .vmem S4096x2048 .f32) (harg4 : arg4.IsWhole)
    (x0 : Vec F S4096x4096 .fp8e4m3) (x1 : Vec F S4096x2048 .fp8e4m3) (x2 : Vec F S1 .f32) (x3 : Vec F S1 .f32) :
    out0_A_4 c arg0 harg0 arg1 harg1 arg2 harg2 arg3 harg3 arg4 harg4 x0 x1 x2 x3 = refV x0 x1 x2 x3 := by
  have hz : (![0, 0] : Fin 2 → Nat) = fun _ => 0 := by decide
  unfold out0_A_4 kernelRun0_A
  rw [View.read_writes_junk_eq_canon]
  dsimp only
  rw [View.canon_unit_zero hz]
  simp only [kernelRun0_A.sl.r, kernelRun0_A.sl.cst_29, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r_16, View.readAt_eq_ld, harg0.read_unread, harg1.read_unread, harg2.read_unread, harg3.read_unread]
  rw [ld_cols x0 0 0 rfl, ld_rows x1 0 0 rfl,
    ld_cols x0 1 256 rfl, ld_rows x1 1 256 rfl,
    ld_cols x0 2 512 rfl, ld_rows x1 2 512 rfl,
    ld_cols x0 3 768 rfl, ld_rows x1 3 768 rfl,
    ld_cols x0 4 1024 rfl, ld_rows x1 4 1024 rfl,
    ld_cols x0 5 1280 rfl, ld_rows x1 5 1280 rfl,
    ld_cols x0 6 1536 rfl, ld_rows x1 6 1536 rfl,
    ld_cols x0 7 1792 rfl, ld_rows x1 7 1792 rfl,
    ld_cols x0 8 2048 rfl, ld_rows x1 8 2048 rfl,
    ld_cols x0 9 2304 rfl, ld_rows x1 9 2304 rfl,
    ld_cols x0 10 2560 rfl, ld_rows x1 10 2560 rfl,
    ld_cols x0 11 2816 rfl, ld_rows x1 11 2816 rfl,
    ld_cols x0 12 3072 rfl, ld_rows x1 12 3072 rfl,
    ld_cols x0 13 3328 rfl, ld_rows x1 13 3328 rfl,
    ld_cols x0 14 3584 rfl, ld_rows x1 14 3584 rfl,
    ld_cols x0 15 3840 rfl, ld_rows x1 15 3840 rfl]
  rw [ld_word x2, ld_word x3]
  rfl

section AtIdeal

/-- A product's entry, over the extended reals. -/
theorem prodV_apply (v : Vec Ideal S4096x256 .fp8e4m3) (w : Vec Ideal S256x2048 .fp8e4m3) (r : Fin 4096) (n : Fin 2048) :
    prodV (F := Ideal) v w (ix2 r n) = ∑ k : Fin 256, v (ix2 r k) * w (ix2 k n) := by
  unfold prodV
  pointwise

/-- A rounded product's entry. -/
theorem sentV_apply (p : FVec Ideal S4096x2048 .f32) (j) : sentV (F := Ideal) p j = sent (p j) := by
  unfold sentV sent
  pointwise

/-- An addend's entry is the device's share of it. -/
theorem termV_apply (d : Nat) (v : Vec Ideal S4096x256 .fp8e4m3) (w : Vec Ideal S256x2048 .fp8e4m3) (r : Fin 4096) (n : Fin 2048) :
    termV (F := Ideal) (BitVec.ofNat 32 (d % 4)) v w (ix2 r n)
      = share (r.val / 256) d (∑ k : Fin 256, v (ix2 r k) * w (ix2 k n)) := by
  unfold termV k0_pay2
  pointwise
  rw [word_column r.val (d % 4) r.isLt (Nat.mod_lt _ (by decide)), prodV_apply, sentV_apply, prodV_apply]
  unfold share
  by_cases h : r.val / 256 % 4 = d % 4 <;> simp [h, Scalar.select]

/-- The running sum's entry. -/
theorem accV_apply (x : Vec Ideal S4096x4096 .fp8e4m3) (w : Vec Ideal S4096x2048 .fp8e4m3) (r : Fin 4096) (n : Fin 2048) :
    ∀ (k : Nat) (h : k ≤ 16), accV (F := Ideal) x w k h (ix2 r n)
      = ∑ d : Fin k, share (r.val / 256) d.val (dotE x w ⟨d.val, by omega⟩ r n)
  | 0, _ => by
    unfold accV
    pointwise
    exact Fin.sum_univ_zero _ |>.symm
  | k + 1, h => by
    rw [Fin.sum_univ_castSucc]
    unfold accV
    rw [addf_apply, accV_apply x w r n k (by omega), termV_apply]
    rfl

/-- The reference's entry. -/
theorem refV_apply (x : Vec Ideal S4096x4096 .fp8e4m3) (w : Vec Ideal S4096x2048 .fp8e4m3) (sx sw : Vec Ideal S1 .f32)
    (r : Fin 4096) (n : Fin 2048) :
    refV (F := Ideal) x w sx sw (ix2 r n) = resE x w (sx (ix1 0)) (sw (ix1 0)) r n := by
  unfold refV resE
  pointwise
  rw [accV_apply]

end AtIdeal

end Cert.Scatter.Ref

end
-- ==== Proof.RefRun.lean ====
/-
The reference's result array after its run: the call's one point stages the whole arrays, so the array is the function
of the arguments that the call leaves.
-/
module

public import proofs.«01_k».proof.Proof.RefValue

@[expose] public section

set_option maxRecDepth 20000

noncomputable section

namespace Cert.Scatter.Ref

open Cert.ReferenceIdeal Cert.ReferenceIdeal.Gen Cert.ReferenceIdeal.Value
open Idealize.ShloMosaic Idealize.ShloMosaic.TcCoe Idealize.SL.Sem

variable {F : FTy → Type} [FloatOps F]
variable (m : (ℓ : Loc nD τ sig) → Buf (Elt F) ℓ) (ρ : Dev nD → PrngReg)

/-- The call has one point. -/
theorem only (t : Fin cfg0.N) : t = (0 : Fin 1) := Subsingleton.elim (α := Fin 1) _ _

/-- There every window's block is its whole array. -/
theorem emb_x (j : S4096x4096.Idx) : ((cfg0.win 0).blk (0 : Fin 1)).view.emb j = j := by
  funext a
  apply Fin.ext
  fin_cases a <;> exact (Nat.zero_add _).trans (Nat.one_mul _)
theorem emb_w (j : S4096x2048.Idx) : ((cfg0.win 1).blk (0 : Fin 1)).view.emb j = j := by
  funext a
  apply Fin.ext
  fin_cases a <;> exact (Nat.zero_add _).trans (Nat.one_mul _)
theorem emb_o (j : S4096x2048.Idx) : ((cfg0.win 4).blk (0 : Fin 1)).view.emb j = j := by
  funext a
  apply Fin.ext
  fin_cases a <;> exact (Nat.zero_add _).trans (Nat.one_mul _)

/-- What the result holds after the run. -/
theorem result (c : Dev nD) : (dats m 0 c).arrAt 4 cfg0.N
    = refV (m ((c : Thread nD τ).loc main_arg0)) (m ((c : Thread nD τ).loc main_arg1))
        (m ((c : Thread nD τ).loc main_arg2)) (m ((c : Thread nD τ).loc main_arg3)) := by
  have hx : iblk m c 0 (0 : Fin 1) = m ((c : Thread nD τ).loc main_arg0) := by
    rw [← V_main_arg0 m c]
    exact funext fun j => congrArg (V m c main_arg0) (emb_x j)
  have hw : iblk m c 1 (0 : Fin 1) = m ((c : Thread nD τ).loc main_arg1) := by
    rw [← V_main_arg1 m c]
    exact funext fun j => congrArg (V m c main_arg1) (emb_w j)
  have h2 : iblk m c 2 (0 : Fin 1) (ix1 0) = m ((c : Thread nD τ).loc main_arg2) (ix1 0) := by
    rw [← V_main_arg2 m c]
    refine congrArg (V m c main_arg2) (funext fun a => ?_)
    fin_cases a
    exact Subsingleton.elim (α := Fin 1) _ _
  have h3 : iblk m c 3 (0 : Fin 1) (ix1 0) = m ((c : Thread nD τ).loc main_arg3) (ix1 0) := by
    rw [← V_main_arg3 m c]
    refine congrArg (V m c main_arg3) (funext fun a => ?_)
    fin_cases a
    exact Subsingleton.elim (α := Fin 1) _ _
  funext i
  have ho := out_eq c (ms0_0 (0 : Fin 1)) (hs0_0 _) (ms0_1 (0 : Fin 1)) (hs0_1 _) (ms0_2 (0 : Fin 1)) (hs0_2 _)
    (ms0_3 (0 : Fin 1)) (hs0_3 _) (ms0_4 (0 : Fin 1)) (hs0_4 _) (iblk m c 0 (0 : Fin 1)) (iblk m c 1 (0 : Fin 1))
    (iblk m c 2 (0 : Fin 1)) (iblk m c 3 (0 : Fin 1))
  have hb := congrFun ((blocks4 m c (0 : Fin 1) (flush0_4 _)).trans ((flushed4_A m c (0 : Fin 1)).trans
    (congrArg ((cfg0.win 4).cut (grid0.coords (0 : Fin 1))) ho))) i
  refine (congrArg ((dats m 0 c).arrAt 4 cfg0.N) (emb_o i).symm).trans (hb.trans ?_)
  show refV (iblk m c 0 (0 : Fin 1)) (iblk m c 1 (0 : Fin 1)) (iblk m c 2 (0 : Fin 1)) (iblk m c 3 (0 : Fin 1)) i = _
  rw [hx, hw]
  unfold refV
  rw [h2, h3]

end Cert.Scatter.Ref

end
-- ==== Proof.Algebraic.lean ====
/-
The value claim: each device's result is its row block of the reference's. The blocks are read as entries of the whole
arrays, and the kernel's sum by planes and ring is the reference's sum over the devices in another order.
-/
module

public import proofs.«01_k».proof.Defs
public import proofs.«01_k».proof.Proof.KernelValue
public import proofs.«01_k».proof.Proof.RefRun

@[expose] public section

set_option maxRecDepth 20000

noncomputable section

namespace Cert.Scatter

open Cert.KernelIdeal Cert.KernelIdeal.Gen
open Idealize.ShloMosaic Idealize.ShloMosaic.TcCoe Idealize.SL.Sem
open Idealize.ShloMosaic.Pipeline (Dat)

section Array

variable {F : FTy → Type} [FloatOps F]
variable (m : (ℓ : Loc nD τ sig) → Buf (Elt F) ℓ) (ρ : Dev nD → PrngReg)

/-- The launch has one point, where every window's block is its whole array. -/
theorem emb_x (j : S4096x256.Idx) : (win0_0.blk (0 : Fin 1)).view.emb j = j := by
  funext a
  apply Fin.ext
  fin_cases a <;> exact (Nat.zero_add _).trans (Nat.one_mul _)
theorem emb_w (j : S256x2048.Idx) : (win0_1.blk (0 : Fin 1)).view.emb j = j := by
  funext a
  apply Fin.ext
  fin_cases a <;> exact (Nat.zero_add _).trans (Nat.one_mul _)
theorem emb_out (j : S256x2048.Idx) : ((cfg0.win 4).blk (0 : Fin 1)).view.emb j = j := by
  funext a
  apply Fin.ext
  fin_cases a <;> exact (Nat.zero_add _).trans (Nat.one_mul _)

/-- The result's array ends as the block computed. -/
theorem finalA_out (c : Dev nD) : finalA m ρ c 4 = outAt m c := by
  funext i
  have hb := congrFun ((dats m ρ 0 c).read_blk_arrAt_eq_flushed 4
    (fun t t' _ _ h => absurd (Subsingleton.elim (α := Fin 1) t t') h) cfg0.N (0 : Fin 1) (by decide) (flush0_4 _)) i
  exact (congrArg (finalA m ρ c 4) (emb_out i).symm).trans hb

end Array

section Entries

variable (m : (ℓ : Loc nD τ sig) → Buf (Elt Ideal) ℓ)
variable (X : (⟨2, ![4096, 4096]⟩ : Shape).Idx → EReal) (W : (⟨2, ![4096, 2048]⟩ : Shape).Idx → EReal)
variable (sx sw : S1.Idx → EReal)

/-- The devices hold their column blocks of `x` and row blocks of `w`, and all of them the scales. -/
def Shares : Prop := ∀ c : Dev nD,
  m ((c : Thread nD τ).loc main_arg0) = Layout.block ⟨2, ![4096, 256]⟩ ⟨2, ![4096, 4096]⟩ 1 16 c X
  ∧ m ((c : Thread nD τ).loc main_arg1) = Layout.block ⟨2, ![256, 2048]⟩ ⟨2, ![4096, 2048]⟩ 0 16 c W
  ∧ m ((c : Thread nD τ).loc main_arg2) = sx ∧ m ((c : Thread nD τ).loc main_arg3) = sw

variable {m X W sx sw} (hs : Shares m X W sx sw)
include hs

/-- The staged block of `x`, in the whole array; -/
theorem xB_apply (c : Dev nD) (a : Fin 4096) (k : Fin 256) : xB m c (ix2 a k) = X (ix2 a ⟨256 * c.val + k.val, by
    have : c.val < 16 := c.isLt; omega⟩) := by
  have h : xB m c (ix2 a k) = m ((c : Thread nD τ).loc main_arg0) (ix2 a k) :=
    congrArg (m ((c : Thread nD τ).loc main_arg0)) (emb_x (ix2 a k))
  rw [h, (hs c).1]
  refine congrArg X (funext fun b => Fin.ext ?_)
  fin_cases b
  · rfl
  · show c.val * 256 + k.val = 256 * c.val + k.val
    omega

/-- that of `w`; -/
theorem wB_apply (c : Dev nD) (k : Fin 256) (n : Fin 2048) : wB m c (ix2 k n) = W (ix2 ⟨256 * c.val + k.val, by
    have : c.val < 16 := c.isLt; omega⟩ n) := by
  have h : wB m c (ix2 k n) = m ((c : Thread nD τ).loc main_arg1) (ix2 k n) :=
    congrArg (m ((c : Thread nD τ).loc main_arg1)) (emb_w (ix2 k n))
  rw [h, (hs c).2.1]
  refine congrArg W (funext fun b => Fin.ext ?_)
  fin_cases b
  · show c.val * 256 + k.val = 256 * c.val + k.val
    omega
  · rfl

/-- and the two scales. -/
theorem sxB_apply (c : Dev nD) : sxB m c i0 = sx (ix1 0) := by
  rw [← (hs c).2.2.1]
  exact congrArg (m ((c : Thread nD τ).loc main_arg2)) ((eq_i0 _).trans (eq_i0 _).symm)
theorem swB_apply (c : Dev nD) : swB m c i0 = sw (ix1 0) := by
  rw [← (hs c).2.2.2]
  exact congrArg (m ((c : Thread nD τ).loc main_arg3)) ((eq_i0 _).trans (eq_i0 _).symm)

/-- A device's product of a row chunk is its slices' product in the whole arrays. -/
theorem partE_eq (d : Dev nD) (i : Fin 16) (r : Fin 256) (n : Fin 2048) :
    partE m d i r n = dotE X W d ⟨256 * i.val + r.val, by omega⟩ n := by
  unfold partE dotE
  exact Finset.sum_congr rfl fun k _ => by rw [xB_apply hs, wB_apply hs]

/-- A plane's sum of row chunk `i`, at the device that stands in the chunk's own column. -/
theorem planeE_eq (e : Dev nD) (i : Fin 16) (he : i.val % 4 = e.val % 4) (r : Fin 256) (n : Fin 2048) :
    let f : Fin 16 → EReal := fun d => share i.val d.val (dotE X W d ⟨256 * i.val + r.val, by omega⟩ n)
    planeE m e i r n = f e + f (pl e 0) + f (pl e 1) + f (pl e 2) := by
  intro f
  have hown : f e = dotE X W e ⟨256 * i.val + r.val, by omega⟩ n := if_pos he
  have hoth : ∀ p, f (pl e p) = sent (dotE X W (pl e p) ⟨256 * i.val + r.val, by omega⟩ n) := fun p =>
    if_neg fun h => pl_column e p (h.symm.trans he)
  unfold planeE
  rw [hown, hoth, hoth, hoth]
  simp only [partE_eq hs]

/-- The kernel's entry is the reference's at the device's own rows. -/
theorem outAt_eq (c : Dev nD) (r : Fin 256) (n : Fin 2048) :
    outAt m c (ix2 r n) = resE X W (sx (ix1 0)) (sw (ix1 0)) ⟨256 * c.val + r.val, by have : c.val < 16 := c.isLt; omega⟩ n := by
  have hc : chunk c 3 0 = c := Fin.ext (chunk_own c)
  have hr : (256 * c.val + r.val) / 256 = c.val := by omega
  rw [outAt_apply, hc, sxB_apply hs, swB_apply hs,
    planeE_eq hs c c rfl, planeE_eq hs (zl c) c (zl_column c).symm,
    planeE_eq hs (zl (zl c)) c ((zl_column _).trans (zl_column c)).symm,
    planeE_eq hs (zl (zl (zl c))) c ((zl_column _).trans ((zl_column _).trans (zl_column c))).symm]
  unfold resE
  rw [sum_met _ c]
  simp only [hr]

end Entries

/-- The value claim: over the extended reals the kernel's devices end with their row blocks of what the reference ends with. -/
theorem algebraic : Cert.algebraic_KernelIdeal_ReferenceIdeal := by
  intro m g m' g' _ hs
  refine ⟨(Cert.ReferenceIdeal.Gen.dats m' 0 0).arrAt 4 Cert.ReferenceIdeal.cfg0.N, ?_,
    (θ_run Cert.ReferenceIdeal.defs _ _).mono (fun r h => h 0) (Cert.ReferenceIdeal.Value.run_blocks m' g')⟩
  refine (θ_run defs _ _).mono (fun r h c => ?_) (run_main m g)
  refine ⟨((h.1 c 4).trans (finalA_out m g c)).trans ?_, (h.1 c 0).trans (finalA_in m g 0 rfl c), (h.1 c 1).trans (finalA_in m g 1 rfl c),
    (h.1 c 2).trans (finalA_in m g 2 rfl c), (h.1 c 3).trans (finalA_in m g 3 rfl c)⟩
  rw [Ref.result m' 0]
  funext j
  obtain ⟨a, b, rfl⟩ : ∃ (a : Fin 256) (b : Fin 2048), j = ix2 a b := ⟨j 0, j 1, eq_ix2 j⟩
  rw [outAt_eq hs c a b]
  refine (Ref.refV_apply _ _ _ _ _ b).symm.trans (congrArg (Ref.refV _ _ _ _) (funext fun x => Fin.ext ?_))
  fin_cases x
  · show 256 * c.val + a.val = c.val * 256 + a.val
    omega
  · rfl

end Cert.Scatter

end
-- ==== Proof.lean ====
/-
The certificate's claims put together: the three frames, the idealization, and the values.
-/
module

public import proofs.«01_k».proof.Defs
public import proofs.«01_k».proof.Proof.Frames
public import proofs.«01_k».proof.Proof.Algebraic
public import proofs.«01_k».proof.Proof.Gen.Kernel
public import proofs.«01_k».proof.Proof.Gen.KernelIdeal
public import proofs.«01_k».proof.Proof.Gen.ReferenceIdeal
public import proofs.«01_k».proof.Proof.Gen.ReferenceIdeal.Value

@[expose] public section

noncomputable section

namespace Cert.Proof

theorem claim : Cert.Claim := ⟨Cert.Kernel.Gen.facts, Cert.KernelIdeal.Gen.facts, Cert.ReferenceIdeal.Gen.facts,
  Cert.Scatter.frame_Kernel, Cert.Scatter.frame_KernelIdeal, Cert.Scatter.frame_ReferenceIdeal, Cert.Scatter.ideal_same,
  Cert.Scatter.algebraic⟩

end Cert.Proof

end
